-- ==== Defs.lean ====
def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepRefIdeal (m : (ℓ : Loc Cert.PrepRefIdeal.nD Cert.PrepRefIdeal.τ Cert.PrepRefIdeal.sig) → Buf (Elt Ideal) ℓ) : Prop :=
  True

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1)
      ∧ r.2.mem ((c.tc : Thread Cert.Kv.nD Cert.Kv.τ).loc Cert.Kv.main_arg2) = m ((c.tc : Thread Cert.Kv.nD Cert.Kv.τ).loc Cert.Kv.main_arg2))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
      ∧ r.2.mem ((c.tc : Thread Cert.KvIdeal.nD Cert.KvIdeal.τ).loc Cert.KvIdeal.main_arg2) = m ((c.tc : Thread Cert.KvIdeal.nD Cert.KvIdeal.τ).loc Cert.KvIdeal.main_arg2))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1)
      ∧ r.2.mem ((c.tc : Thread Cert.KvRefIdeal.nD Cert.KvRefIdeal.τ).loc Cert.KvRefIdeal.main_arg2) = m ((c.tc : Thread Cert.KvRefIdeal.nD Cert.KvRefIdeal.τ).loc Cert.KvRefIdeal.main_arg2))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5)
      ∧ r.2.mem ((c.tc : Thread Cert.Prep.nD Cert.Prep.τ).loc Cert.Prep.main_arg6) = m ((c.tc : Thread Cert.Prep.nD Cert.Prep.τ).loc Cert.Prep.main_arg6)
      ∧ r.2.mem ((c.tc : Thread Cert.Prep.nD Cert.Prep.τ).loc Cert.Prep.main_arg7) = m ((c.tc : Thread Cert.Prep.nD Cert.Prep.τ).loc Cert.Prep.main_arg7)
      ∧ r.2.mem ((c.tc : Thread Cert.Prep.nD Cert.Prep.τ).loc Cert.Prep.main_arg8) = m ((c.tc : Thread Cert.Prep.nD Cert.Prep.τ).loc Cert.Prep.main_arg8)
      ∧ r.2.mem ((c.tc : Thread Cert.Prep.nD Cert.Prep.τ).loc Cert.Prep.main_arg9) = m ((c.tc : Thread Cert.Prep.nD Cert.Prep.τ).loc Cert.Prep.main_arg9)
      ∧ r.2.mem ((c.tc : Thread Cert.Prep.nD Cert.Prep.τ).loc Cert.Prep.main_arg10) = m ((c.tc : Thread Cert.Prep.nD Cert.Prep.τ).loc Cert.Prep.main_arg10)
      ∧ r.2.mem ((c.tc : Thread Cert.Prep.nD Cert.Prep.τ).loc Cert.Prep.main_arg11) = m ((c.tc : Thread Cert.Prep.nD Cert.Prep.τ).loc Cert.Prep.main_arg11)
      ∧ r.2.mem ((c.tc : Thread Cert.Prep.nD Cert.Prep.τ).loc Cert.Prep.main_arg12) = m ((c.tc : Thread Cert.Prep.nD Cert.Prep.τ).loc Cert.Prep.main_arg12)
      ∧ r.2.mem ((c.tc : Thread Cert.Prep.nD Cert.Prep.τ).loc Cert.Prep.main_arg13) = m ((c.tc : Thread Cert.Prep.nD Cert.Prep.τ).loc Cert.Prep.main_arg13)
      ∧ r.2.mem ((c.tc : Thread Cert.Prep.nD Cert.Prep.τ).loc Cert.Prep.main_arg14) = m ((c.tc : Thread Cert.Prep.nD Cert.Prep.τ).loc Cert.Prep.main_arg14)
      ∧ r.2.mem ((c.tc : Thread Cert.Prep.nD Cert.Prep.τ).loc Cert.Prep.main_arg15) = m ((c.tc : Thread Cert.Prep.nD Cert.Prep.τ).loc Cert.Prep.main_arg15))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
      ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
      ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8)
      ∧ r.2.mem ((c.tc : Thread Cert.PrepIdeal.nD Cert.PrepIdeal.τ).loc Cert.PrepIdeal.main_arg9) = m ((c.tc : Thread Cert.PrepIdeal.nD Cert.PrepIdeal.τ).loc Cert.PrepIdeal.main_arg9)
      ∧ r.2.mem ((c.tc : Thread Cert.PrepIdeal.nD Cert.PrepIdeal.τ).loc Cert.PrepIdeal.main_arg10) = m ((c.tc : Thread Cert.PrepIdeal.nD Cert.PrepIdeal.τ).loc Cert.PrepIdeal.main_arg10)
      ∧ r.2.mem ((c.tc : Thread Cert.PrepIdeal.nD Cert.PrepIdeal.τ).loc Cert.PrepIdeal.main_arg11) = m ((c.tc : Thread Cert.PrepIdeal.nD Cert.PrepIdeal.τ).loc Cert.PrepIdeal.main_arg11)
      ∧ r.2.mem ((c.tc : Thread Cert.PrepIdeal.nD Cert.PrepIdeal.τ).loc Cert.PrepIdeal.main_arg12) = m ((c.tc : Thread Cert.PrepIdeal.nD Cert.PrepIdeal.τ).loc Cert.PrepIdeal.main_arg12)
      ∧ r.2.mem ((c.tc : Thread Cert.PrepIdeal.nD Cert.PrepIdeal.τ).loc Cert.PrepIdeal.main_arg13) = m ((c.tc : Thread Cert.PrepIdeal.nD Cert.PrepIdeal.τ).loc Cert.PrepIdeal.main_arg13)
      ∧ r.2.mem ((c.tc : Thread Cert.PrepIdeal.nD Cert.PrepIdeal.τ).loc Cert.PrepIdeal.main_arg14) = m ((c.tc : Thread Cert.PrepIdeal.nD Cert.PrepIdeal.τ).loc Cert.PrepIdeal.main_arg14)
      ∧ r.2.mem ((c.tc : Thread Cert.PrepIdeal.nD Cert.PrepIdeal.τ).loc Cert.PrepIdeal.main_arg15) = m ((c.tc : Thread Cert.PrepIdeal.nD Cert.PrepIdeal.τ).loc Cert.PrepIdeal.main_arg15))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6)
      ∧ r.2.mem ((c.tc : Thread Cert.PrepRefIdeal.nD Cert.PrepRefIdeal.τ).loc Cert.PrepRefIdeal.main_arg7) = m ((c.tc : Thread Cert.PrepRefIdeal.nD Cert.PrepRefIdeal.τ).loc Cert.PrepRefIdeal.main_arg7)
      ∧ r.2.mem ((c.tc : Thread Cert.PrepRefIdeal.nD Cert.PrepRefIdeal.τ).loc Cert.PrepRefIdeal.main_arg8) = m ((c.tc : Thread Cert.PrepRefIdeal.nD Cert.PrepRefIdeal.τ).loc Cert.PrepRefIdeal.main_arg8)
      ∧ r.2.mem ((c.tc : Thread Cert.PrepRefIdeal.nD Cert.PrepRefIdeal.τ).loc Cert.PrepRefIdeal.main_arg9) = m ((c.tc : Thread Cert.PrepRefIdeal.nD Cert.PrepRefIdeal.τ).loc Cert.PrepRefIdeal.main_arg9)
      ∧ r.2.mem ((c.tc : Thread Cert.PrepRefIdeal.nD Cert.PrepRefIdeal.τ).loc Cert.PrepRefIdeal.main_arg10) = m ((c.tc : Thread Cert.PrepRefIdeal.nD Cert.PrepRefIdeal.τ).loc Cert.PrepRefIdeal.main_arg10)
      ∧ r.2.mem ((c.tc : Thread Cert.PrepRefIdeal.nD Cert.PrepRefIdeal.τ).loc Cert.PrepRefIdeal.main_arg11) = m ((c.tc : Thread Cert.PrepRefIdeal.nD Cert.PrepRefIdeal.τ).loc Cert.PrepRefIdeal.main_arg11)
      ∧ r.2.mem ((c.tc : Thread Cert.PrepRefIdeal.nD Cert.PrepRefIdeal.τ).loc Cert.PrepRefIdeal.main_arg12) = m ((c.tc : Thread Cert.PrepRefIdeal.nD Cert.PrepRefIdeal.τ).loc Cert.PrepRefIdeal.main_arg12)
      ∧ r.2.mem ((c.tc : Thread Cert.PrepRefIdeal.nD Cert.PrepRefIdeal.τ).loc Cert.PrepRefIdeal.main_arg13) = m ((c.tc : Thread Cert.PrepRefIdeal.nD Cert.PrepRefIdeal.τ).loc Cert.PrepRefIdeal.main_arg13)
      ∧ r.2.mem ((c.tc : Thread Cert.PrepRefIdeal.nD Cert.PrepRefIdeal.τ).loc Cert.PrepRefIdeal.main_arg14) = m ((c.tc : Thread Cert.PrepRefIdeal.nD Cert.PrepRefIdeal.τ).loc Cert.PrepRefIdeal.main_arg14)
      ∧ r.2.mem ((c.tc : Thread Cert.PrepRefIdeal.nD Cert.PrepRefIdeal.τ).loc Cert.PrepRefIdeal.main_arg15) = m ((c.tc : Thread Cert.PrepRefIdeal.nD Cert.PrepRefIdeal.τ).loc Cert.PrepRefIdeal.main_arg15))
      ∧ r.2.sem = fun _ => 0)

def preserves_Post_PostIdeal : Prop :=
  True

def algebraic_PostIdeal_PostRefIdeal [hPostIdeal : Cert.PostIdeal.Facts] [hPostRefIdeal : Cert.PostRefIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)
      ∧ m' ((c.tc : Thread Cert.PostRefIdeal.nD Cert.PostRefIdeal.τ).loc Cert.PostRefIdeal.main_arg6) = m ((c.tc : Thread Cert.PostIdeal.nD Cert.PostIdeal.τ).loc Cert.PostIdeal.main_arg6)
      ∧ m' ((c.tc : Thread Cert.PostRefIdeal.nD Cert.PostRefIdeal.τ).loc Cert.PostRefIdeal.main_arg7) = m ((c.tc : Thread Cert.PostIdeal.nD Cert.PostIdeal.τ).loc Cert.PostIdeal.main_arg7)
      ∧ m' ((c.tc : Thread Cert.PostRefIdeal.nD Cert.PostRefIdeal.τ).loc Cert.PostRefIdeal.main_arg8) = m ((c.tc : Thread Cert.PostIdeal.nD Cert.PostIdeal.τ).loc Cert.PostIdeal.main_arg8)) →
    ∃ (v0 : (c : Dev Cert.PostIdeal.nD) → Buf (Elt Ideal) ((c.tc : Thread Cert.PostIdeal.nD Cert.PostIdeal.τ).loc Cert.PostIdeal.main_v0_0)) (v1 : (c : Dev Cert.PostIdeal.nD) → Buf (Elt Ideal) ((c.tc : Thread Cert.PostIdeal.nD Cert.PostIdeal.τ).loc Cert.PostIdeal.main_v0_1)) (v2 : (c : Dev Cert.PostIdeal.nD) → Buf (Elt Ideal) ((c.tc : Thread Cert.PostIdeal.nD Cert.PostIdeal.τ).loc Cert.PostIdeal.main_v0_2)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v0_0) = v0 c
          ∧ r.2.mem ((c.tc : Thread Cert.PostIdeal.nD Cert.PostIdeal.τ).loc Cert.PostIdeal.main_v0_1) = v1 c
          ∧ r.2.mem ((c.tc : Thread Cert.PostIdeal.nD Cert.PostIdeal.τ).loc Cert.PostIdeal.main_v0_2) = v2 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v42) = v0 c
          ∧ r.2.mem ((c.tc : Thread Cert.PostRefIdeal.nD Cert.PostRefIdeal.τ).loc Cert.PostRefIdeal.main_v43) = v1 c
          ∧ r.2.mem ((c.tc : Thread Cert.PostRefIdeal.nD Cert.PostRefIdeal.τ).loc Cert.PostRefIdeal.main_v44) = v2 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6)
          ∧ r.2.mem ((c.tc : Thread Cert.PostRefIdeal.nD Cert.PostRefIdeal.τ).loc Cert.PostRefIdeal.main_arg7) = m' ((c.tc : Thread Cert.PostRefIdeal.nD Cert.PostRefIdeal.τ).loc Cert.PostRefIdeal.main_arg7)
          ∧ r.2.mem ((c.tc : Thread Cert.PostRefIdeal.nD Cert.PostRefIdeal.τ).loc Cert.PostRefIdeal.main_arg8) = m' ((c.tc : Thread Cert.PostRefIdeal.nD Cert.PostRefIdeal.τ).loc Cert.PostRefIdeal.main_arg8))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v0)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v0) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v34) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)
      ∧ m' ((c.tc : Thread Cert.KvRefIdeal.nD Cert.KvRefIdeal.τ).loc Cert.KvRefIdeal.main_arg2) = m ((c.tc : Thread Cert.KvIdeal.nD Cert.KvIdeal.τ).loc Cert.KvIdeal.main_arg2)) →
    ∃ (v0 : (c : Dev Cert.KvIdeal.nD) → Buf (Elt Ideal) ((c.tc : Thread Cert.KvIdeal.nD Cert.KvIdeal.τ).loc Cert.KvIdeal.main_v0)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v0) = v0 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
          ∧ r.2.mem ((c.tc : Thread Cert.KvIdeal.nD Cert.KvIdeal.τ).loc Cert.KvIdeal.main_arg2) = m ((c.tc : Thread Cert.KvIdeal.nD Cert.KvIdeal.τ).loc Cert.KvIdeal.main_arg2))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v15) = v0 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1)
          ∧ r.2.mem ((c.tc : Thread Cert.KvRefIdeal.nD Cert.KvRefIdeal.τ).loc Cert.KvRefIdeal.main_arg2) = m' ((c.tc : Thread Cert.KvRefIdeal.nD Cert.KvRefIdeal.τ).loc Cert.KvRefIdeal.main_arg2))

def preserves_Prep_PrepIdeal : Prop :=
  True

def algebraic_PrepIdeal_PrepRefIdeal [hPrepIdeal : Cert.PrepIdeal.Facts] [hPrepRefIdeal : Cert.PrepRefIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)
      ∧ m' ((c.tc : Thread Cert.PrepRefIdeal.nD Cert.PrepRefIdeal.τ).loc Cert.PrepRefIdeal.main_arg4) = m ((c.tc : Thread Cert.PrepIdeal.nD Cert.PrepIdeal.τ).loc Cert.PrepIdeal.main_arg4)
      ∧ m' ((c.tc : Thread Cert.PrepRefIdeal.nD Cert.PrepRefIdeal.τ).loc Cert.PrepRefIdeal.main_arg5) = m ((c.tc : Thread Cert.PrepIdeal.nD Cert.PrepIdeal.τ).loc Cert.PrepIdeal.main_arg5)
      ∧ m' ((c.tc : Thread Cert.PrepRefIdeal.nD Cert.PrepRefIdeal.τ).loc Cert.PrepRefIdeal.main_arg6) = m ((c.tc : Thread Cert.PrepIdeal.nD Cert.PrepIdeal.τ).loc Cert.PrepIdeal.main_arg6)
      ∧ m' ((c.tc : Thread Cert.PrepRefIdeal.nD Cert.PrepRefIdeal.τ).loc Cert.PrepRefIdeal.main_arg7) = m ((c.tc : Thread Cert.PrepIdeal.nD Cert.PrepIdeal.τ).loc Cert.PrepIdeal.main_arg7)
      ∧ m' ((c.tc : Thread Cert.PrepRefIdeal.nD Cert.PrepRefIdeal.τ).loc Cert.PrepRefIdeal.main_arg8) = m ((c.tc : Thread Cert.PrepIdeal.nD Cert.PrepIdeal.τ).loc Cert.PrepIdeal.main_arg8)
      ∧ m' ((c.tc : Thread Cert.PrepRefIdeal.nD Cert.PrepRefIdeal.τ).loc Cert.PrepRefIdeal.main_arg9) = m ((c.tc : Thread Cert.PrepIdeal.nD Cert.PrepIdeal.τ).loc Cert.PrepIdeal.main_arg9)
      ∧ m' ((c.tc : Thread Cert.PrepRefIdeal.nD Cert.PrepRefIdeal.τ).loc Cert.PrepRefIdeal.main_arg10) = m ((c.tc : Thread Cert.PrepIdeal.nD Cert.PrepIdeal.τ).loc Cert.PrepIdeal.main_arg10)
      ∧ m' ((c.tc : Thread Cert.PrepRefIdeal.nD Cert.PrepRefIdeal.τ).loc Cert.PrepRefIdeal.main_arg11) = m ((c.tc : Thread Cert.PrepIdeal.nD Cert.PrepIdeal.τ).loc Cert.PrepIdeal.main_arg11)
      ∧ m' ((c.tc : Thread Cert.PrepRefIdeal.nD Cert.PrepRefIdeal.τ).loc Cert.PrepRefIdeal.main_arg12) = m ((c.tc : Thread Cert.PrepIdeal.nD Cert.PrepIdeal.τ).loc Cert.PrepIdeal.main_arg12)
      ∧ m' ((c.tc : Thread Cert.PrepRefIdeal.nD Cert.PrepRefIdeal.τ).loc Cert.PrepRefIdeal.main_arg13) = m ((c.tc : Thread Cert.PrepIdeal.nD Cert.PrepIdeal.τ).loc Cert.PrepIdeal.main_arg13)
      ∧ m' ((c.tc : Thread Cert.PrepRefIdeal.nD Cert.PrepRefIdeal.τ).loc Cert.PrepRefIdeal.main_arg14) = m ((c.tc : Thread Cert.PrepIdeal.nD Cert.PrepIdeal.τ).loc Cert.PrepIdeal.main_arg14)
      ∧ m' ((c.tc : Thread Cert.PrepRefIdeal.nD Cert.PrepRefIdeal.τ).loc Cert.PrepRefIdeal.main_arg15) = m ((c.tc : Thread Cert.PrepIdeal.nD Cert.PrepIdeal.τ).loc Cert.PrepIdeal.main_arg15)) →
    ∃ (v0 : (c : Dev Cert.PrepIdeal.nD) → Buf (Elt Ideal) ((c.tc : Thread Cert.PrepIdeal.nD Cert.PrepIdeal.τ).loc Cert.PrepIdeal.main_v18_1)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v18_1) = v0 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
          ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
          ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
          ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
          ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8)
          ∧ r.2.mem ((c.tc : Thread Cert.PrepIdeal.nD Cert.PrepIdeal.τ).loc Cert.PrepIdeal.main_arg9) = m ((c.tc : Thread Cert.PrepIdeal.nD Cert.PrepIdeal.τ).loc Cert.PrepIdeal.main_arg9)
          ∧ r.2.mem ((c.tc : Thread Cert.PrepIdeal.nD Cert.PrepIdeal.τ).loc Cert.PrepIdeal.main_arg10) = m ((c.tc : Thread Cert.PrepIdeal.nD Cert.PrepIdeal.τ).loc Cert.PrepIdeal.main_arg10)
          ∧ r.2.mem ((c.tc : Thread Cert.PrepIdeal.nD Cert.PrepIdeal.τ).loc Cert.PrepIdeal.main_arg11) = m ((c.tc : Thread Cert.PrepIdeal.nD Cert.PrepIdeal.τ).loc Cert.PrepIdeal.main_arg11)
          ∧ r.2.mem ((c.tc : Thread Cert.PrepIdeal.nD Cert.PrepIdeal.τ).loc Cert.PrepIdeal.main_arg12) = m ((c.tc : Thread Cert.PrepIdeal.nD Cert.PrepIdeal.τ).loc Cert.PrepIdeal.main_arg12)
          ∧ r.2.mem ((c.tc : Thread Cert.PrepIdeal.nD Cert.PrepIdeal.τ).loc Cert.PrepIdeal.main_arg13) = m ((c.tc : Thread Cert.PrepIdeal.nD Cert.PrepIdeal.τ).loc Cert.PrepIdeal.main_arg13)
          ∧ r.2.mem ((c.tc : Thread Cert.PrepIdeal.nD Cert.PrepIdeal.τ).loc Cert.PrepIdeal.main_arg14) = m ((c.tc : Thread Cert.PrepIdeal.nD Cert.PrepIdeal.τ).loc Cert.PrepIdeal.main_arg14)
          ∧ r.2.mem ((c.tc : Thread Cert.PrepIdeal.nD Cert.PrepIdeal.τ).loc Cert.PrepIdeal.main_arg15) = m ((c.tc : Thread Cert.PrepIdeal.nD Cert.PrepIdeal.τ).loc Cert.PrepIdeal.main_arg15))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v74) = v0 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3)
          ∧ r.2.mem ((c.tc : Thread Cert.PrepRefIdeal.nD Cert.PrepRefIdeal.τ).loc Cert.PrepRefIdeal.main_arg4) = m' ((c.tc : Thread Cert.PrepRefIdeal.nD Cert.PrepRefIdeal.τ).loc Cert.PrepRefIdeal.main_arg4)
          ∧ r.2.mem ((c.tc : Thread Cert.PrepRefIdeal.nD Cert.PrepRefIdeal.τ).loc Cert.PrepRefIdeal.main_arg5) = m' ((c.tc : Thread Cert.PrepRefIdeal.nD Cert.PrepRefIdeal.τ).loc Cert.PrepRefIdeal.main_arg5)
          ∧ r.2.mem ((c.tc : Thread Cert.PrepRefIdeal.nD Cert.PrepRefIdeal.τ).loc Cert.PrepRefIdeal.main_arg6) = m' ((c.tc : Thread Cert.PrepRefIdeal.nD Cert.PrepRefIdeal.τ).loc Cert.PrepRefIdeal.main_arg6)
          ∧ r.2.mem ((c.tc : Thread Cert.PrepRefIdeal.nD Cert.PrepRefIdeal.τ).loc Cert.PrepRefIdeal.main_arg7) = m' ((c.tc : Thread Cert.PrepRefIdeal.nD Cert.PrepRefIdeal.τ).loc Cert.PrepRefIdeal.main_arg7)
          ∧ r.2.mem ((c.tc : Thread Cert.PrepRefIdeal.nD Cert.PrepRefIdeal.τ).loc Cert.PrepRefIdeal.main_arg8) = m' ((c.tc : Thread Cert.PrepRefIdeal.nD Cert.PrepRefIdeal.τ).loc Cert.PrepRefIdeal.main_arg8)
          ∧ r.2.mem ((c.tc : Thread Cert.PrepRefIdeal.nD Cert.PrepRefIdeal.τ).loc Cert.PrepRefIdeal.main_arg9) = m' ((c.tc : Thread Cert.PrepRefIdeal.nD Cert.PrepRefIdeal.τ).loc Cert.PrepRefIdeal.main_arg9)
          ∧ r.2.mem ((c.tc : Thread Cert.PrepRefIdeal.nD Cert.PrepRefIdeal.τ).loc Cert.PrepRefIdeal.main_arg10) = m' ((c.tc : Thread Cert.PrepRefIdeal.nD Cert.PrepRefIdeal.τ).loc Cert.PrepRefIdeal.main_arg10)
          ∧ r.2.mem ((c.tc : Thread Cert.PrepRefIdeal.nD Cert.PrepRefIdeal.τ).loc Cert.PrepRefIdeal.main_arg11) = m' ((c.tc : Thread Cert.PrepRefIdeal.nD Cert.PrepRefIdeal.τ).loc Cert.PrepRefIdeal.main_arg11)
          ∧ r.2.mem ((c.tc : Thread Cert.PrepRefIdeal.nD Cert.PrepRefIdeal.τ).loc Cert.PrepRefIdeal.main_arg12) = m' ((c.tc : Thread Cert.PrepRefIdeal.nD Cert.PrepRefIdeal.τ).loc Cert.PrepRefIdeal.main_arg12)
          ∧ r.2.mem ((c.tc : Thread Cert.PrepRefIdeal.nD Cert.PrepRefIdeal.τ).loc Cert.PrepRefIdeal.main_arg13) = m' ((c.tc : Thread Cert.PrepRefIdeal.nD Cert.PrepRefIdeal.τ).loc Cert.PrepRefIdeal.main_arg13)
          ∧ r.2.mem ((c.tc : Thread Cert.PrepRefIdeal.nD Cert.PrepRefIdeal.τ).loc Cert.PrepRefIdeal.main_arg14) = m' ((c.tc : Thread Cert.PrepRefIdeal.nD Cert.PrepRefIdeal.τ).loc Cert.PrepRefIdeal.main_arg14)
          ∧ r.2.mem ((c.tc : Thread Cert.PrepRefIdeal.nD Cert.PrepRefIdeal.τ).loc Cert.PrepRefIdeal.main_arg15) = m' ((c.tc : Thread Cert.PrepRefIdeal.nD Cert.PrepRefIdeal.τ).loc Cert.PrepRefIdeal.main_arg15))

def Claim : Prop :=
  ∃ (hPost : Cert.Post.Facts) (hPostIdeal : Cert.PostIdeal.Facts) (hPostRefIdeal : Cert.PostRefIdeal.Facts) (hMlp : Cert.Mlp.Facts) (hMlpIdeal : Cert.MlpIdeal.Facts) (hMlpRefIdeal : Cert.MlpRefIdeal.Facts) (hKv : Cert.Kv.Facts) (hKvIdeal : Cert.KvIdeal.Facts) (hKvRefIdeal : Cert.KvRefIdeal.Facts) (hPrep : Cert.Prep.Facts) (hPrepIdeal : Cert.PrepIdeal.Facts) (hPrepRefIdeal : Cert.PrepRefIdeal.Facts),
    quiescent_Post (hPost := hPost)
    ∧ quiescent_PostIdeal (hPostIdeal := hPostIdeal)
    ∧ quiescent_PostRefIdeal (hPostRefIdeal := hPostRefIdeal)
    ∧ quiescent_Mlp (hMlp := hMlp)
    ∧ quiescent_MlpIdeal (hMlpIdeal := hMlpIdeal)
    ∧ quiescent_MlpRefIdeal (hMlpRefIdeal := hMlpRefIdeal)
    ∧ quiescent_Kv (hKv := hKv)
    ∧ quiescent_KvIdeal (hKvIdeal := hKvIdeal)
    ∧ quiescent_KvRefIdeal (hKvRefIdeal := hKvRefIdeal)
    ∧ quiescent_Prep (hPrep := hPrep)
    ∧ quiescent_PrepIdeal (hPrepIdeal := hPrepIdeal)
    ∧ quiescent_PrepRefIdeal (hPrepRefIdeal := hPrepRefIdeal)
    ∧ preserves_Post_PostIdeal
    ∧ algebraic_PostIdeal_PostRefIdeal (hPostIdeal := hPostIdeal) (hPostRefIdeal := hPostRefIdeal)
    ∧ preserves_Mlp_MlpIdeal
    ∧ algebraic_MlpIdeal_MlpRefIdeal (hMlpIdeal := hMlpIdeal) (hMlpRefIdeal := hMlpRefIdeal)
    ∧ preserves_Kv_KvIdeal
    ∧ algebraic_KvIdeal_KvRefIdeal (hKvIdeal := hKvIdeal) (hKvRefIdeal := hKvRefIdeal)
    ∧ preserves_Prep_PrepIdeal
    ∧ algebraic_PrepIdeal_PrepRefIdeal (hPrepIdeal := hPrepIdeal) (hPrepRefIdeal := hPrepRefIdeal)
-- ==== Post.lean ====
abbrev S8x2048x1024 : Shape := ⟨3, ![8, 2048, 1024]⟩
abbrev S1024x1024 : Shape := ⟨2, ![1024, 1024]⟩
abbrev S1x1024 : Shape := ⟨2, ![1, 1024]⟩
abbrev S8x256x2048 : Shape := ⟨3, ![8, 256, 2048]⟩
abbrev S1024x4096 : Shape := ⟨2, ![1024, 4096]⟩
abbrev S4096x1024 : Shape := ⟨2, ![4096, 1024]⟩
abbrev S1x1024x1024 : Shape := ⟨3, ![1, 1024, 1024]⟩
abbrev S1x256x2048 : Shape := ⟨3, ![1, 256, 2048]⟩
abbrev S1024x256 : Shape := ⟨2, ![1024, 256]⟩
abbrev S256x1024 : Shape := ⟨2, ![256, 1024]⟩
abbrev S1024x512 : Shape := ⟨2, ![1024, 512]⟩
abbrev S1024 : Shape := ⟨1, ![1024]⟩
abbrev S1024x1 : Shape := ⟨2, ![1024, 1]⟩
abbrev S256x2048 : Shape := ⟨2, ![256, 2048]⟩
abbrev S256x256 : Shape := ⟨2, ![256, 256]⟩

abbrev nBuf : Space → Nat
  | .hbm => 12
  | .vmem => 23
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .bf16⟩
  | .hbm, ⟨2, _⟩ => ⟨S1024x1024, .f32⟩
  | .hbm, ⟨3, _⟩ => ⟨S1x1024, .f32⟩
  | .hbm, ⟨4, _⟩ => ⟨S1024x1024, .f32⟩
  | .hbm, ⟨5, _⟩ => ⟨S8x256x2048, .bf16⟩
  | .hbm, ⟨6, _⟩ => ⟨S1024x1024, .f32⟩
  | .hbm, ⟨7, _⟩ => ⟨S1024x4096, .f32⟩
  | .hbm, ⟨8, _⟩ => ⟨S4096x1024, .f32⟩
  | .hbm, ⟨9, _⟩ => ⟨S8x2048x1024, .f32⟩
  | .hbm, ⟨10, _⟩ => ⟨S1024x4096, .bf16⟩
  | .hbm, ⟨11, _⟩ => ⟨S4096x1024, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1x256x2048, .bf16⟩
  | .local _ .vmem, ⟨8, _⟩ => ⟨S1x256x2048, .bf16⟩
  | .local _ .vmem, ⟨9, _⟩ => ⟨S1024x1024, .f32⟩
  | .local _ .vmem, ⟨10, _⟩ => ⟨S1024x256, .f32⟩
  | .local _ .vmem, ⟨11, _⟩ => ⟨S1024x256, .f32⟩
  | .local _ .vmem, ⟨12, _⟩ => ⟨S256x1024, .f32⟩
  | .local _ .vmem, ⟨13, _⟩ => ⟨S256x1024, .f32⟩
  | .local _ .vmem, ⟨14, _⟩ => ⟨S1x1024x1024, .f32⟩
  | .local _ .vmem, ⟨15, _⟩ => ⟨S1x1024x1024, .f32⟩
  | .local _ .vmem, ⟨16, _⟩ => ⟨S1024x256, .bf16⟩
  | .local _ .vmem, ⟨17, _⟩ => ⟨S1024x256, .bf16⟩
  | .local _ .vmem, ⟨18, _⟩ => ⟨S256x1024, .bf16⟩
  | .local _ .vmem, ⟨19, _⟩ => ⟨S256x1024, .bf16⟩
  | .local _ .vmem, ⟨20, _⟩ => ⟨S1024x1024, .bf16⟩
  | .local _ .vmem, ⟨21, _⟩ => ⟨S1024x1024, .bf16⟩
  | .local _ .vmem, ⟨22, _⟩ => ⟨S1024x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![c0_i32.toNat, v1.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![c0_i32.toNat, v1.toNat]

def cc0_transform_11 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== PostRefIdeal.lean ====
abbrev S8x2048x1024 : Shape := ⟨3, ![8, 2048, 1024]⟩
abbrev S1024x1024 : Shape := ⟨2, ![1024, 1024]⟩
abbrev S1x1024 : Shape := ⟨2, ![1, 1024]⟩
abbrev S8x256x2048 : Shape := ⟨3, ![8, 256, 2048]⟩
abbrev S1024x4096 : Shape := ⟨2, ![1024, 4096]⟩
abbrev S4096x1024 : Shape := ⟨2, ![4096, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x4x256 : Shape := ⟨4, ![8, 2048, 4, 256]⟩
abbrev S8x256x1024 : Shape := ⟨3, ![8, 256, 1024]⟩
abbrev S8x256x4x256 : Shape := ⟨4, ![8, 256, 4, 256]⟩
abbrev S8x4x2048x256 : Shape := ⟨4, ![8, 4, 2048, 256]⟩
abbrev S8x4x2048 : Shape := ⟨3, ![8, 4, 2048]⟩
abbrev S8x4x2048x1 : Shape := ⟨4, ![8, 4, 2048, 1]⟩
abbrev S8x4x256x2048 : Shape := ⟨4, ![8, 4, 256, 2048]⟩

abbrev nBuf : Space → Nat
  | .hbm => 61
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .bf16⟩
  | .hbm, ⟨2, _⟩ => ⟨S1024x1024, .f32⟩
  | .hbm, ⟨3, _⟩ => ⟨S1x1024, .f32⟩
  | .hbm, ⟨4, _⟩ => ⟨S1024x1024, .f32⟩
  | .hbm, ⟨5, _⟩ => ⟨S8x256x2048, .bf16⟩
  | .hbm, ⟨6, _⟩ => ⟨S1024x1024, .f32⟩
  | .hbm, ⟨7, _⟩ => ⟨S1024x4096, .f32⟩
  | .hbm, ⟨8, _⟩ => ⟨S4096x1024, .f32⟩
  | .hbm, ⟨9, _⟩ => ⟨S8x2048x1024, .f32⟩
  | .hbm, ⟨10, _⟩ => ⟨S8x256x2048, .f32⟩
  | .hbm, ⟨11, _⟩ => ⟨S8x2048x1024, .f32⟩
  | .hbm, ⟨12, _⟩ => ⟨S8x2048x1024, .f32⟩
  | .hbm, ⟨13, _⟩ => ⟨S1024, .f32⟩
  | .hbm, ⟨14, _⟩ => ⟨S8x2048x1024, .f32⟩
  | .hbm, ⟨15, _⟩ => ⟨S_, .f32⟩
  | .hbm, ⟨16, _⟩ => ⟨S8x2048, .f32⟩
  | .hbm, ⟨17, _⟩ => ⟨S8x2048x1, .f32⟩
  | .hbm, ⟨18, _⟩ => ⟨S_, .f32⟩
  | .hbm, ⟨19, _⟩ => ⟨S8x2048x1, .f32⟩
  | .hbm, ⟨20, _⟩ => ⟨S8x2048x1, .f32⟩
  | .hbm, ⟨21, _⟩ => ⟨S_, .f32⟩
  | .hbm, ⟨22, _⟩ => ⟨S8x2048x1, .f32⟩
  | .hbm, ⟨23, _⟩ => ⟨S8x2048x1, .f32⟩
  | .hbm, ⟨24, _⟩ => ⟨S8x2048x1, .f32⟩
  | .hbm, ⟨25, _⟩ => ⟨S8x2048x1024, .f32⟩
  | .hbm, ⟨26, _⟩ => ⟨S8x2048x1024, .f32⟩
  | .hbm, ⟨27, _⟩ => ⟨S1x1x1024, .f32⟩
  | .hbm, ⟨28, _⟩ => ⟨S8x2048x1024, .f32⟩
  | .hbm, ⟨29, _⟩ => ⟨S8x2048x1024, .f32⟩
  | .hbm, ⟨30, _⟩ => ⟨S8x2048x1024, .f32⟩
  | .hbm, ⟨31, _⟩ => ⟨S8x2048x4x256, .f32⟩
  | .hbm, ⟨32, _⟩ => ⟨S8x256x1024, .f32⟩
  | .hbm, ⟨33, _⟩ => ⟨S8x256x1024, .f32⟩
  | .hbm, ⟨34, _⟩ => ⟨S8x256x4x256, .f32⟩
  | .hbm, ⟨35, _⟩ => ⟨S8x256x4x256, .f32⟩
  | .hbm, ⟨36, _⟩ => ⟨S8x4x2048x256, .f32⟩
  | .hbm, ⟨37, _⟩ => ⟨S_, .f32⟩
  | .hbm, ⟨38, _⟩ => ⟨S8x4x2048x256, .f32⟩
  | .hbm, ⟨39, _⟩ => ⟨S8x4x2048x256, .f32⟩
  | .hbm, ⟨40, _⟩ => ⟨S_, .f32⟩
  | .hbm, ⟨41, _⟩ => ⟨S8x4x2048, .f32⟩
  | .hbm, ⟨42, _⟩ => ⟨S_, .f32⟩
  | .hbm, ⟨43, _⟩ => ⟨S8x4x2048, .f32⟩
  | .hbm, ⟨44, _⟩ => ⟨S8x4x2048, .f32⟩
  | .hbm, ⟨45, _⟩ => ⟨S8x4x2048x1, .f32⟩
  | .hbm, ⟨46, _⟩ => ⟨S8x4x2048x256, .f32⟩
  | .hbm, ⟨47, _⟩ => ⟨S8x4x2048x256, .f32⟩
  | .hbm, ⟨48, _⟩ => ⟨S8x4x2048x256, .f32⟩
  | .hbm, ⟨49, _⟩ => ⟨S_, .f32⟩
  | .hbm, ⟨50, _⟩ => ⟨S8x4x2048, .f32⟩
  | .hbm, ⟨51, _⟩ => ⟨S8x4x2048x1, .f32⟩
  | .hbm, ⟨52, _⟩ => ⟨S8x4x2048x256, .f32⟩
  | .hbm, ⟨53, _⟩ => ⟨S8x4x2048x256, .f32⟩
  | .hbm, ⟨54, _⟩ => ⟨S8x4x256x2048, .f32⟩
  | .hbm, ⟨55, _⟩ => ⟨S8x2048x4x256, .f32⟩
  | .hbm, ⟨56, _⟩ => ⟨S8x2048x1024, .f32⟩
  | .hbm, ⟨57, _⟩ => ⟨S8x2048x1024, .f32⟩
  | .hbm, ⟨58, _⟩ => ⟨S8x2048x1024, .f32⟩
  | .hbm, ⟨59, _⟩ => ⟨S1024x4096, .bf16⟩
  | .hbm, ⟨60, _⟩ => ⟨S4096x1024, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩

abbrev nD : Nat := 1
abbrev τ : Topo := Topo.v7x

variable {F : FTy → Type} [FloatOps F]
-- ==== Mlp.lean ====
abbrev S16384x1024 : Shape := ⟨2, ![16384, 1024]⟩
abbrev S1x1024 : Shape := ⟨2, ![1, 1024]⟩
abbrev S1024x4096 : Shape := ⟨2, ![1024, 4096]⟩
abbrev S4096x1024 : Shape := ⟨2, ![4096, 1024]⟩
abbrev S1024x1024 : Shape := ⟨2, ![1024, 1024]⟩
abbrev S1024 : Shape := ⟨1, ![1024]⟩
abbrev S1024x1 : Shape := ⟨2, ![1024, 1]⟩
abbrev S1024x512 : Shape := ⟨2, ![1024, 512]⟩
abbrev S512x1024 : Shape := ⟨2, ![512, 1024]⟩

abbrev nBuf : Space → Nat
  | .hbm => 6
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x4096, .bf16⟩
  | .hbm, ⟨3, _⟩ => ⟨S4096x1024, .bf16⟩
  | .hbm, ⟨4, _⟩ => ⟨S1x1024, .f32⟩
  | .hbm, ⟨5, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x4096, .bf16⟩
  | .local _ .vmem, ⟨4, _⟩ => ⟨S4096x1024, .bf16⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MlpRefIdeal.lean ====
abbrev S16384x1024 : Shape := ⟨2, ![16384, 1024]⟩
abbrev S1x1024 : Shape := ⟨2, ![1, 1024]⟩
abbrev S1024x4096 : Shape := ⟨2, ![1024, 4096]⟩
abbrev S4096x1024 : Shape := ⟨2, ![4096, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S16384x4096 : Shape := ⟨2, ![16384, 4096]⟩

abbrev nBuf : Space → Nat
  | .hbm => 48
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x4096, .bf16⟩
  | .hbm, ⟨3, _⟩ => ⟨S4096x1024, .bf16⟩
  | .hbm, ⟨4, _⟩ => ⟨S1x1024, .f32⟩
  | .hbm, ⟨5, _⟩ => ⟨S1024x4096, .f32⟩
  | .hbm, ⟨6, _⟩ => ⟨S4096x1024, .f32⟩
  | .hbm, ⟨7, _⟩ => ⟨S1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S1x1024, .f32⟩
  | .hbm, ⟨22, _⟩ => ⟨S16384x1024, .f32⟩
  | .hbm, ⟨23, _⟩ => ⟨S16384x1024, .f32⟩
  | .hbm, ⟨24, _⟩ => ⟨S16384x4096, .f32⟩
  | .hbm, ⟨25, _⟩ => ⟨S_, .f32⟩
  | .hbm, ⟨26, _⟩ => ⟨S16384x4096, .f32⟩
  | .hbm, ⟨27, _⟩ => ⟨S16384x4096, .f32⟩
  | .hbm, ⟨28, _⟩ => ⟨S16384x4096, .f32⟩
  | .hbm, ⟨29, _⟩ => ⟨S16384x1024, .f32⟩
  | .hbm, ⟨30, _⟩ => ⟨S16384x1024, .f32⟩
  | .hbm, ⟨31, _⟩ => ⟨S1024, .f32⟩
  | .hbm, ⟨32, _⟩ => ⟨S16384x1024, .f32⟩
  | .hbm, ⟨33, _⟩ => ⟨S_, .f32⟩
  | .hbm, ⟨34, _⟩ => ⟨S16384, .f32⟩
  | .hbm, ⟨35, _⟩ => ⟨S16384x1, .f32⟩
  | .hbm, ⟨36, _⟩ => ⟨S_, .f32⟩
  | .hbm, ⟨37, _⟩ => ⟨S16384x1, .f32⟩
  | .hbm, ⟨38, _⟩ => ⟨S16384x1, .f32⟩
  | .hbm, ⟨39, _⟩ => ⟨S_, .f32⟩
  | .hbm, ⟨40, _⟩ => ⟨S16384x1, .f32⟩
  | .hbm, ⟨41, _⟩ => ⟨S16384x1, .f32⟩
  | .hbm, ⟨42, _⟩ => ⟨S16384x1, .f32⟩
  | .hbm, ⟨43, _⟩ => ⟨S16384x1024, .f32⟩
  | .hbm, ⟨44, _⟩ => ⟨S16384x1024, .f32⟩
  | .hbm, ⟨45, _⟩ => ⟨S1x1024, .f32⟩
  | .hbm, ⟨46, _⟩ => ⟨S16384x1024, .f32⟩
  | .hbm, ⟨47, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call0_cst : Ref sig .tc := ⟨.hbm, 25, rfl⟩
abbrev main_call0_v0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== Kv.lean ====
abbrev S2048x1024 : Shape := ⟨2, ![2048, 1024]⟩
abbrev S1x1024 : Shape := ⟨2, ![1, 1024]⟩
abbrev S1024x2048 : Shape := ⟨2, ![1024, 2048]⟩
abbrev S2048x2048 : Shape := ⟨2, ![2048, 2048]⟩
abbrev S1024x1024 : Shape := ⟨2, ![1024, 1024]⟩
abbrev S1024x512 : Shape := ⟨2, ![1024, 512]⟩
abbrev S1024 : Shape := ⟨1, ![1024]⟩
abbrev S1024x1 : Shape := ⟨2, ![1024, 1]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x2048, .f32⟩
  | .hbm, ⟨3, _⟩ => ⟨S2048x2048, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2048, .f32⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KvRefIdeal.lean ====
abbrev S2048x1024 : Shape := ⟨2, ![2048, 1024]⟩
abbrev S1x1024 : Shape := ⟨2, ![1, 1024]⟩
abbrev S1024x2048 : Shape := ⟨2, ![1024, 2048]⟩
abbrev S1024 : Shape := ⟨1, ![1024]⟩
abbrev S_ : Shape := ⟨0, ![]⟩
abbrev S2048 : Shape := ⟨1, ![2048]⟩
abbrev S2048x1 : Shape := ⟨2, ![2048, 1]⟩
abbrev S2048x2048 : Shape := ⟨2, ![2048, 2048]⟩

abbrev nBuf : Space → Nat
  | .hbm => 22
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x2048, .f32⟩
  | .hbm, ⟨3, _⟩ => ⟨S1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S1x1024, .f32⟩
  | .hbm, ⟨18, _⟩ => ⟨S2048x1024, .f32⟩
  | .hbm, ⟨19, _⟩ => ⟨S2048x1024, .f32⟩
  | .hbm, ⟨20, _⟩ => ⟨S2048x2048, .f32⟩
  | .hbm, ⟨21, _⟩ => ⟨S2048x2048, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Prep.lean ====
abbrev S16384x1024 : Shape := ⟨2, ![16384, 1024]⟩
abbrev S8x2048 : Shape := ⟨2, ![8, 2048]⟩
abbrev S1x1024 : Shape := ⟨2, ![1, 1024]⟩
abbrev S1024x3872 : Shape := ⟨2, ![1024, 3872]⟩
abbrev S128x512 : Shape := ⟨2, ![128, 512]⟩
abbrev S1x1824 : Shape := ⟨2, ![1, 1824]⟩
abbrev S1x512 : Shape := ⟨2, ![1, 512]⟩
abbrev S64x512 : Shape := ⟨2, ![64, 512]⟩
abbrev S160x512 : Shape := ⟨2, ![160, 512]⟩
abbrev S64x64 : Shape := ⟨2, ![64, 64]⟩
abbrev S32 : Shape := ⟨1, ![32]⟩
abbrev S_ : Shape := ⟨0, ![]⟩
abbrev S1x32 : Shape := ⟨2, ![1, 32]⟩
abbrev S4x32 : Shape := ⟨2, ![4, 32]⟩
abbrev S128 : Shape := ⟨1, ![128]⟩
abbrev S1x128 : Shape := ⟨2, ![1, 128]⟩
abbrev S3872x1024 : Shape := ⟨2, ![3872, 1024]⟩
abbrev S1x1536 : Shape := ⟨2, ![1, 1536]⟩
abbrev S1x288 : Shape := ⟨2, ![1, 288]⟩
abbrev S32x4x128 : Shape := ⟨3, ![32, 4, 128]⟩
abbrev S32x128x4 : Shape := ⟨3, ![32, 128, 4]⟩
abbrev S32x128x4x32 : Shape := ⟨4, ![32, 128, 4, 32]⟩
abbrev S32x128x128 : Shape := ⟨3, ![32, 128, 128]⟩
abbrev S4096x128 : Shape := ⟨2, ![4096, 128]⟩
abbrev S16384x6144 : Shape := ⟨2, ![16384, 6144]⟩
abbrev S16384x1536 : Shape := ⟨2, ![16384, 1536]⟩
abbrev S256x512 : Shape := ⟨2, ![256, 512]⟩
abbrev S512x1024 : Shape := ⟨2, ![512, 1024]⟩
abbrev S128x128 : Shape := ⟨2, ![128, 128]⟩
abbrev S512x6144 : Shape := ⟨2, ![512, 6144]⟩
abbrev S512x1536 : Shape := ⟨2, ![512, 1536]⟩
abbrev S8x512 : Shape := ⟨2, ![8, 512]⟩
abbrev S128x1024 : Shape := ⟨2, ![128, 1024]⟩
abbrev S1024x128 : Shape := ⟨2, ![1024, 128]⟩
abbrev S32x1024 : Shape := ⟨2, ![32, 1024]⟩
abbrev S1024x32 : Shape := ⟨2, ![1024, 32]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S1024x288 : Shape := ⟨2, ![1024, 288]⟩
abbrev S512x288 : Shape := ⟨2, ![512, 288]⟩
abbrev S512x128 : Shape := ⟨2, ![512, 128]⟩
abbrev S512x64 : Shape := ⟨2, ![512, 64]⟩
abbrev S512x160 : Shape := ⟨2, ![512, 160]⟩

abbrev nBuf : Space → Nat
  | .hbm => 39
  | .vmem => 29
  | .smem => 0
  | _ => 0

abbrev bufTy : (tb : Table) → Fin (tcTables nBuf tb) → BufTy
  | .hbm, ⟨0, _⟩ => ⟨S16384x1024, .f32⟩
  | .hbm, ⟨1, _⟩ => ⟨S8x2048, .i32⟩
  | .hbm, ⟨2, _⟩ => ⟨S1x1024, .f32⟩
  | .hbm, ⟨3, _⟩ => ⟨S1024x3872, .f32⟩
  | .hbm, ⟨4, _⟩ => ⟨S128x512, .f32⟩
  | .hbm, ⟨5, _⟩ => ⟨S128x512, .f32⟩
  | .hbm, ⟨6, _⟩ => ⟨S1x1824, .f32⟩
  | .hbm, ⟨7, _⟩ => ⟨S1x512, .f32⟩
  | .hbm, ⟨8, _⟩ => ⟨S64x512, .f32⟩
  | .hbm, ⟨9, _⟩ => ⟨S1x512, .f32⟩
  | .hbm, ⟨10, _⟩ => ⟨S64x512, .f32⟩
  | .hbm, ⟨11, _⟩ => ⟨S160x512, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S64x64, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S1x32, .f32⟩
  | .hbm, ⟨25, _⟩ => ⟨S4x32, .f32⟩
  | .hbm, ⟨26, _⟩ => ⟨S128, .f32⟩
  | .hbm, ⟨27, _⟩ => ⟨S1x128, .f32⟩
  | .hbm, ⟨28, _⟩ => ⟨S3872x1024, .f32⟩
  | .hbm, ⟨29, _⟩ => ⟨S1x1536, .f32⟩
  | .hbm, ⟨30, _⟩ => ⟨S1x288, .f32⟩
  | .hbm, ⟨31, _⟩ => ⟨S32x4x128, .i32⟩
  | .hbm, ⟨32, _⟩ => ⟨S32x128x4, .i32⟩
  | .hbm, ⟨33, _⟩ => ⟨S32x128x4x32, .i32⟩
  | .hbm, ⟨34, _⟩ => ⟨S32x128x128, .i32⟩
  | .hbm, ⟨35, _⟩ => ⟨S4096x128, .i32⟩
  | .hbm, ⟨36, _⟩ => ⟨S16384x6144, .bf16⟩
  | .hbm, ⟨37, _⟩ => ⟨S16384x1536, .f32⟩
  | .hbm, ⟨38, _⟩ => ⟨S256x512, .f32⟩
  | .local _ .vmem, ⟨0, _⟩ => ⟨S512x1024, .f32⟩
  | .local _ .vmem, ⟨1, _⟩ => ⟨S512x1024, .f32⟩
  | .local _ .vmem, ⟨2, _⟩ => ⟨S128x128, .i32⟩
  | .local _ .vmem, ⟨3, _⟩ => ⟨S128x128, .i32⟩
  | .local _ .vmem, ⟨4, _⟩ => ⟨S1x1024, .f32⟩
  | .local _ .vmem, ⟨5, _⟩ => ⟨S3872x1024, .f32⟩
  | .local _ .vmem, ⟨6, _⟩ => ⟨S1x128, .f32⟩
  | .local _ .vmem, ⟨7, _⟩ => ⟨S128x512, .f32⟩
  | .local _ .vmem, ⟨8, _⟩ => ⟨S128x512, .f32⟩
  | .local _ .vmem, ⟨9, _⟩ => ⟨S1x1536, .f32⟩
  | .local _ .vmem, ⟨10, _⟩ => ⟨S1x288, .f32⟩
  | .local _ .vmem, ⟨11, _⟩ => ⟨S1x512, .f32⟩
  | .local _ .vmem, ⟨12, _⟩ => ⟨S64x512, .f32⟩
  | .local _ .vmem, ⟨13, _⟩ => ⟨S1x512, .f32⟩
  | .local _ .vmem, ⟨14, _⟩ => ⟨S64x512, .f32⟩
  | .local _ .vmem, ⟨15, _⟩ => ⟨S160x512, .f32⟩
  | .local _ .vmem, ⟨16, _⟩ => ⟨S1x512, .f32⟩
  | .local _ .vmem, ⟨17, _⟩ => ⟨S1x512, .f32⟩
  | .local _ .vmem, ⟨18, _⟩ => ⟨S1x512, .f32⟩
  | .local _ .vmem, ⟨19, _⟩ => ⟨S64x64, .f32⟩
  | .local _ .vmem, ⟨20, _⟩ => ⟨S512x6144, .bf16⟩
  | .local _ .vmem, ⟨21, _⟩ => ⟨S512x6144, .bf16⟩
  | .local _ .vmem, ⟨22, _⟩ => ⟨S512x1536, .f32⟩
  | .local _ .vmem, ⟨23, _⟩ => ⟨S512x1536, .f32⟩
  | .local _ .vmem, ⟨24, _⟩ => ⟨S8x512, .f32⟩
  | .local _ .vmem, ⟨25, _⟩ => ⟨S8x512, .f32⟩
  | .local _ .vmem, ⟨26, _⟩ => ⟨S1024x3872, .bf16⟩
  | .local _ .vmem, ⟨27, _⟩ => ⟨S1x1536, .f32⟩
  | .local _ .vmem, ⟨28, _⟩ => ⟨S1x288, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_v3 : Ref sig .tc := ⟨.hbm, 20, rfl⟩
abbrev main_cst_0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18_0 : Ref sig .tc := ⟨.hbm, 36, rfl⟩
abbrev main_v18_1 : Ref sig .tc := ⟨.hbm, 37, rfl⟩
abbrev main_v18_2 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg18_1 : Ref sig .tc := ⟨.vmem, 21, rfl⟩
abbrev cc0_stg19_0 : Ref sig .tc := ⟨.vmem, 22, rfl⟩
abbrev cc0_stg19_1 : Ref sig .tc := ⟨.vmem, 23, rfl⟩
abbrev cc0_stg20_0 : Ref sig .tc := ⟨.vmem, 24, rfl⟩
abbrev cc0_stg20_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem18_1 : DmaSem sig := 21
abbrev cc0_sem19_0 : DmaSem sig := 22
abbrev cc0_sem19_1 : DmaSem sig := 23
abbrev cc0_sem20_0 : DmaSem sig := 24
abbrev cc0_sem20_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3872x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x288 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S160x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S64x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S512x6144 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x1536 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S8x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== PrepRefIdeal.lean ====
abbrev S16384x1024 : Shape := ⟨2, ![16384, 1024]⟩
abbrev S8x2048 : Shape := ⟨2, ![8, 2048]⟩
abbrev S1x1024 : Shape := ⟨2, ![1, 1024]⟩
abbrev S1024x3872 : Shape := ⟨2, ![1024, 3872]⟩
abbrev S128x512 : Shape := ⟨2, ![128, 512]⟩
abbrev S1x1824 : Shape := ⟨2, ![1, 1824]⟩
abbrev S1x512 : Shape := ⟨2, ![1, 512]⟩
abbrev S64x512 : Shape := ⟨2, ![64, 512]⟩
abbrev S160x512 : Shape := ⟨2, ![160, 512]⟩
abbrev S64x64 : Shape := ⟨2, ![64, 64]⟩
abbrev S8x2048x1024 : Shape := ⟨3, ![8, 2048, 1024]⟩
abbrev S1024 : Shape := ⟨1, ![1024]⟩
abbrev S_ : Shape := ⟨0, ![]⟩
abbrev S8x2048x1 : Shape := ⟨3, ![8, 2048, 1]⟩
abbrev S1x1x1024 : Shape := ⟨3, ![1, 1, 1024]⟩
abbrev S8x2048x3872 : Shape := ⟨3, ![8, 2048, 3872]⟩
abbrev S8x2048x512 : Shape := ⟨3, ![8, 2048, 512]⟩
abbrev S8x2048x1824 : Shape := ⟨3, ![8, 2048, 1824]⟩
abbrev S1824 : Shape := ⟨1, ![1824]⟩
abbrev S8x2049x1824 : Shape := ⟨3, ![8, 2049, 1824]⟩
abbrev S1x1x1824 : Shape := ⟨3, ![1, 1, 1824]⟩
abbrev S8x2048x64 : Shape := ⟨3, ![8, 2048, 64]⟩
abbrev S8x2048x160 : Shape := ⟨3, ![8, 2048, 160]⟩
abbrev S512 : Shape := ⟨1, ![512]⟩
abbrev S1x1x512 : Shape := ⟨3, ![1, 1, 512]⟩
abbrev S8x2048x8x64 : Shape := ⟨4, ![8, 2048, 8, 64]⟩
abbrev S8x64 : Shape := ⟨2, ![8, 64]⟩
abbrev S1x1x8x64 : Shape := ⟨4, ![1, 1, 8, 64]⟩
abbrev S8x2048x8 : Shape := ⟨3, ![8, 2048, 8]⟩
abbrev S8x2048x8x1 : Shape := ⟨4, ![8, 2048, 8, 1]⟩
abbrev S8x2048x1536 : Shape := ⟨3, ![8, 2048, 1536]⟩
abbrev S16384x1536 : Shape := ⟨2, ![16384, 1536]⟩

abbrev nBuf : Space → Nat
  | .hbm => 111
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S8x2048, .i32⟩
  | .hbm, ⟨2, _⟩ => ⟨S1x1024, .f32⟩
  | .hbm, ⟨3, _⟩ => ⟨S1024x3872, .f32⟩
  | .hbm, ⟨4, _⟩ => ⟨S128x512, .f32⟩
  | .hbm, ⟨5, _⟩ => ⟨S128x512, .f32⟩
  | .hbm, ⟨6, _⟩ => ⟨S1x1824, .f32⟩
  | .hbm, ⟨7, _⟩ => ⟨S1x512, .f32⟩
  | .hbm, ⟨8, _⟩ => ⟨S64x512, .f32⟩
  | .hbm, ⟨9, _⟩ => ⟨S1x512, .f32⟩
  | .hbm, ⟨10, _⟩ => ⟨S64x512, .f32⟩
  | .hbm, ⟨11, _⟩ => ⟨S160x512, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S64x64, .f32⟩
  | .hbm, ⟨16, _⟩ => ⟨S8x2048x1024, .f32⟩
  | .hbm, ⟨17, _⟩ => ⟨S1024, .f32⟩
  | .hbm, ⟨18, _⟩ => ⟨S8x2048x1024, .f32⟩
  | .hbm, ⟨19, _⟩ => ⟨S_, .f32⟩
  | .hbm, ⟨20, _⟩ => ⟨S8x2048, .f32⟩
  | .hbm, ⟨21, _⟩ => ⟨S8x2048x1, .f32⟩
  | .hbm, ⟨22, _⟩ => ⟨S_, .f32⟩
  | .hbm, ⟨23, _⟩ => ⟨S8x2048x1, .f32⟩
  | .hbm, ⟨24, _⟩ => ⟨S8x2048x1, .f32⟩
  | .hbm, ⟨25, _⟩ => ⟨S_, .f32⟩
  | .hbm, ⟨26, _⟩ => ⟨S8x2048x1, .f32⟩
  | .hbm, ⟨27, _⟩ => ⟨S8x2048x1, .f32⟩
  | .hbm, ⟨28, _⟩ => ⟨S8x2048x1, .f32⟩
  | .hbm, ⟨29, _⟩ => ⟨S8x2048x1024, .f32⟩
  | .hbm, ⟨30, _⟩ => ⟨S8x2048x1024, .f32⟩
  | .hbm, ⟨31, _⟩ => ⟨S1x1x1024, .f32⟩
  | .hbm, ⟨32, _⟩ => ⟨S8x2048x1024, .f32⟩
  | .hbm, ⟨33, _⟩ => ⟨S8x2048x1024, .f32⟩
  | .hbm, ⟨34, _⟩ => ⟨S8x2048x3872, .f32⟩
  | .hbm, ⟨35, _⟩ => ⟨S8x2048x512, .f32⟩
  | .hbm, ⟨36, _⟩ => ⟨S8x2048x1824, .f32⟩
  | .hbm, ⟨37, _⟩ => ⟨S1824, .f32⟩
  | .hbm, ⟨38, _⟩ => ⟨S_, .i32⟩
  | .hbm, ⟨39, _⟩ => ⟨S_, .f32⟩
  | .hbm, ⟨40, _⟩ => ⟨S8x2049x1824, .f32⟩
  | .hbm, ⟨41, _⟩ => ⟨S8x2048x1824, .f32⟩
  | .hbm, ⟨42, _⟩ => ⟨S8x2048x1824, .f32⟩
  | .hbm, ⟨43, _⟩ => ⟨S1x1x1824, .f32⟩
  | .hbm, ⟨44, _⟩ => ⟨S8x2048x1824, .f32⟩
  | .hbm, ⟨45, _⟩ => ⟨S8x2048x1824, .f32⟩
  | .hbm, ⟨46, _⟩ => ⟨S8x2048x1824, .f32⟩
  | .hbm, ⟨47, _⟩ => ⟨S8x2048x512, .f32⟩
  | .hbm, ⟨48, _⟩ => ⟨S8x2048x512, .f32⟩
  | .hbm, ⟨49, _⟩ => ⟨S8x2048x512, .f32⟩
  | .hbm, ⟨50, _⟩ => ⟨S8x2048x64, .f32⟩
  | .hbm, ⟨51, _⟩ => ⟨S8x2048x64, .f32⟩
  | .hbm, ⟨52, _⟩ => ⟨S8x2048x160, .f32⟩
  | .hbm, ⟨53, _⟩ => ⟨S512, .f32⟩
  | .hbm, ⟨54, _⟩ => ⟨S8x2048x512, .f32⟩
  | .hbm, ⟨55, _⟩ => ⟨S1x1x512, .f32⟩
  | .hbm, ⟨56, _⟩ => ⟨S8x2048x512, .f32⟩
  | .hbm, ⟨57, _⟩ => ⟨S8x2048x512, .f32⟩
  | .hbm, ⟨58, _⟩ => ⟨S8x2048x512, .f32⟩
  | .hbm, ⟨59, _⟩ => ⟨S8x2048x512, .f32⟩
  | .hbm, ⟨60, _⟩ => ⟨S_, .f32⟩
  | .hbm, ⟨61, _⟩ => ⟨S8x2048x512, .f32⟩
  | .hbm, ⟨62, _⟩ => ⟨S8x2048x512, .f32⟩
  | .hbm, ⟨63, _⟩ => ⟨S_, .f32⟩
  | .hbm, ⟨64, _⟩ => ⟨S8x2048x512, .f32⟩
  | .hbm, ⟨65, _⟩ => ⟨S8x2048x512, .f32⟩
  | .hbm, ⟨66, _⟩ => ⟨S8x2048x160, .f32⟩
  | .hbm, ⟨67, _⟩ => ⟨S8x2048x160, .f32⟩
  | .hbm, ⟨68, _⟩ => ⟨S_, .f32⟩
  | .hbm, ⟨69, _⟩ => ⟨S8x2048x160, .f32⟩
  | .hbm, ⟨70, _⟩ => ⟨S8x2048x160, .f32⟩
  | .hbm, ⟨71, _⟩ => ⟨S_, .f32⟩
  | .hbm, ⟨72, _⟩ => ⟨S8x2048x160, .f32⟩
  | .hbm, ⟨73, _⟩ => ⟨S8x2048x160, .f32⟩
  | .hbm, ⟨74, _⟩ => ⟨S8x2048x512, .f32⟩
  | .hbm, ⟨75, _⟩ => ⟨S_, .f32⟩
  | .hbm, ⟨76, _⟩ => ⟨S8x2048x512, .f32⟩
  | .hbm, ⟨77, _⟩ => ⟨S8x2048x512, .f32⟩
  | .hbm, ⟨78, _⟩ => ⟨S512, .f32⟩
  | .hbm, ⟨79, _⟩ => ⟨S1x1x512, .f32⟩
  | .hbm, ⟨80, _⟩ => ⟨S8x2048x512, .f32⟩
  | .hbm, ⟨81, _⟩ => ⟨S8x2048x512, .f32⟩
  | .hbm, ⟨82, _⟩ => ⟨S_, .f32⟩
  | .hbm, ⟨83, _⟩ => ⟨S8x2048x512, .f32⟩
  | .hbm, ⟨84, _⟩ => ⟨S8x2048x512, .f32⟩
  | .hbm, ⟨85, _⟩ => ⟨S8x2048x512, .f32⟩
  | .hbm, ⟨86, _⟩ => ⟨S8x2048x8x64, .f32⟩
  | .hbm, ⟨87, _⟩ => ⟨S8x2048x8x64, .f32⟩
  | .hbm, ⟨88, _⟩ => ⟨S8x2048x8x64, .f32⟩
  | .hbm, ⟨89, _⟩ => ⟨S8x2048x8x64, .f32⟩
  | .hbm, ⟨90, _⟩ => ⟨S8x64, .f32⟩
  | .hbm, ⟨91, _⟩ => ⟨S1x1x8x64, .f32⟩
  | .hbm, ⟨92, _⟩ => ⟨S8x2048x8x64, .f32⟩
  | .hbm, ⟨93, _⟩ => ⟨S8x2048x8x64, .f32⟩
  | .hbm, ⟨94, _⟩ => ⟨S_, .f32⟩
  | .hbm, ⟨95, _⟩ => ⟨S8x2048x8, .f32⟩
  | .hbm, ⟨96, _⟩ => ⟨S8x2048x8x1, .f32⟩
  | .hbm, ⟨97, _⟩ => ⟨S8x2048x8x64, .f32⟩
  | .hbm, ⟨98, _⟩ => ⟨S8x2048x8x64, .f32⟩
  | .hbm, ⟨99, _⟩ => ⟨S8x2048x512, .f32⟩
  | .hbm, ⟨100, _⟩ => ⟨S8x2048x512, .f32⟩
  | .hbm, ⟨101, _⟩ => ⟨S_, .f32⟩
  | .hbm, ⟨102, _⟩ => ⟨S8x2048x512, .f32⟩
  | .hbm, ⟨103, _⟩ => ⟨S8x2048x512, .f32⟩
  | .hbm, ⟨104, _⟩ => ⟨S_, .f32⟩
  | .hbm, ⟨105, _⟩ => ⟨S8x2048x512, .f32⟩
  | .hbm, ⟨106, _⟩ => ⟨S8x2048x512, .f32⟩
  | .hbm, ⟨107, _⟩ => ⟨S8x2048x512, .f32⟩
  | .hbm, ⟨108, _⟩ => ⟨S8x2048x512, .f32⟩
  | .hbm, ⟨109, _⟩ => ⟨S8x2048x1536, .f32⟩
  | .hbm, ⟨110, _⟩ => ⟨S16384x1536, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_cst_1 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c : Ref sig .tc := ⟨.hbm, 38, rfl⟩
abbrev main_call0_v0 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_2 : Ref sig .tc := ⟨.hbm, 60, rfl⟩
abbrev main_v39 : Ref sig .tc := ⟨.hbm, 61, rfl⟩
abbrev main_v40 : Ref sig .tc := ⟨.hbm, 62, rfl⟩
abbrev main_cst_3 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_4 : Ref sig .tc := ⟨.hbm, 68, rfl⟩
abbrev main_v45 : Ref sig .tc := ⟨.hbm, 69, rfl⟩
abbrev main_v46 : Ref sig .tc := ⟨.hbm, 70, rfl⟩
abbrev main_cst_5 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_6 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_7 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_8 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_call1_v0 : Ref sig .tc := ⟨.hbm, 99, rfl⟩
abbrev main_call1_v1 : Ref sig .tc := ⟨.hbm, 100, rfl⟩
abbrev main_call1_cst : Ref sig .tc := ⟨.hbm, 101, rfl⟩
abbrev main_call1_v2 : Ref sig .tc := ⟨.hbm, 102, rfl⟩
abbrev main_call1_v3 : Ref sig .tc := ⟨.hbm, 103, rfl⟩
abbrev main_call1_cst_0 : Ref sig .tc := ⟨.hbm, 104, rfl⟩
abbrev main_call1_v4 : Ref sig .tc := ⟨.hbm, 105, rfl⟩
abbrev main_call1_v5 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩

abbrev nD : Nat := 1
abbrev τ : Topo := Topo.v7x

variable {F : FTy → Type} [FloatOps F]
-- ==== Proof.Spec.lean ====
/- The layer's arithmetic one row at a time: plain functions on extended reals that the kernel and the reference are
   both shown to compute. -/
module

public import Idealize.ShloMosaic.Lib.Pipeline.Value
public import Idealize.ShloMosaic.Lib.Pipeline.ValueKit
public import Idealize.ShloMosaic.Lib.ValueIdx
public import Idealize.ShloMosaic.PureOps.Ideal.Laws

@[expose] public section

noncomputable section

open Idealize.ShloMosaic
open scoped BigOperators

namespace Layer

/-- The RMS norm of one row `v` of 1024 numbers with gains `g`: each entry times the reciprocal root of the mean
square plus the small constant, times its gain. -/
def rms (v g : Fin 1024 → EReal) (k : Fin 1024) : EReal :=
  v k * Ideal.rsqrt (Ideal.div (∑ l, v l * v l) (Ideal.ofBits .f32 0x44800000#32) + Ideal.ofBits .f32 0x358637BD#32) * g k

/-- The squared rectifier. -/
def relu2 (a : EReal) : EReal := max a 0 * max a 0

/-- One row of the gated stream after the feed-forward: the row `v` plus the squared-rectified up-projection of its norm,
projected down. -/
def mlpRow (v g : Fin 1024 → EReal) (wu : Fin 1024 → Fin 4096 → EReal) (wd : Fin 4096 → Fin 1024 → EReal) (c : Fin 1024) :
    EReal :=
  v c + ∑ j : Fin 4096, relu2 (∑ k : Fin 1024, rms v g k * wu k j) * wd j c

/-- A sum over the 4096 hidden units, taken in eight consecutive groups of 512. -/
theorem sum_hidden (a : EReal) (f : Fin 4096 → EReal) :
    a + ∑ j, f j = a + (∑ t : Fin 512, f ⟨t, by omega⟩) + (∑ t : Fin 512, f ⟨512 + t, by omega⟩)
      + (∑ t : Fin 512, f ⟨1024 + t, by omega⟩) + (∑ t : Fin 512, f ⟨1536 + t, by omega⟩)
      + (∑ t : Fin 512, f ⟨2048 + t, by omega⟩) + (∑ t : Fin 512, f ⟨2560 + t, by omega⟩)
      + (∑ t : Fin 512, f ⟨3072 + t, by omega⟩) + (∑ t : Fin 512, f ⟨3584 + t, by omega⟩) := by
  rw [Fin.sum_univ_tiles 8 512 rfl f, Fin.sum_univ_eight]
  simp only [← add_assoc]
  simp

/-- The largest of 256 scores, or minus infinity if that is larger. -/
def top (s : Fin 256 → EReal) : EReal := Finset.univ.fold max (Ideal.ofBits .f32 0xFF800000#32) s

/-- Starting value of `top` is below it, so taking the maximum with it once more changes nothing. -/
theorem max_top (s : Fin 256 → EReal) : max (Ideal.ofBits .f32 0xFF800000#32) (top s) = top s :=
  max_eq_right ((Finset.le_fold_max _).2 (Or.inl le_rfl))

/-- The softmax of 256 scores. -/
def soft (s : Fin 256 → EReal) (m : Fin 256) : EReal :=
  Ideal.div (Ideal.exp (s m - top s)) (∑ n, Ideal.exp (s n - top s))

/-- The scaled score of query row `q` against memory row `m` in head `h`. -/
def score (q : Fin 1024 → EReal) (kv : Fin 256 → Fin 2048 → EReal) (h : Fin 4) (m : Fin 256) : EReal :=
  (∑ e : Fin 256, q ⟨h.val * 256 + e.val, by omega⟩ * kv m ⟨h.val * 256 + e.val, by omega⟩)
    * Ideal.ofBits .f32 0x3D800000#32

/-- `score` with the head's first column given as a number. -/
theorem score_off (q : Fin 1024 → EReal) (kv : Fin 256 → Fin 2048 → EReal) (h : Fin 4) (m : Fin 256) (o : ℕ)
    (ho : h.val * 256 = o) :
    score q kv h m = (∑ e : Fin 256, q ⟨o + e.val, by omega⟩ * kv m ⟨o + e.val, by omega⟩)
      * Ideal.ofBits .f32 0x3D800000#32 := by
  subst ho; rfl

/-- Attention of one query row over the 256 memory rows: column `d` of head `h`. -/
def att (q : Fin 1024 → EReal) (kv : Fin 256 → Fin 2048 → EReal) (h : Fin 4) (d : Fin 256) : EReal :=
  ∑ m, soft (score q kv h) m * kv m ⟨1024 + (h.val * 256 + d.val), by omega⟩

/-- One row after the cross-attention: the row `v`, its norm turned into queries, attention, output projection, sum. -/
def attnRow (v g : Fin 1024 → EReal) (wq : Fin 1024 → Fin 1024 → EReal) (kv : Fin 256 → Fin 2048 → EReal)
    (wo : Fin 1024 → Fin 1024 → EReal) (c : Fin 1024) : EReal :=
  v c + ∑ j : Fin 1024, att (fun j => ∑ k, rms v g k * wq k j) kv ⟨j.val / 256, by omega⟩ ⟨j.val % 256, by omega⟩ * wo j c

/-- `attnRow` of equal ingredients. -/
theorem attnRow_congr {v v' g g' : Fin 1024 → EReal} {wq wq' wo wo' : Fin 1024 → Fin 1024 → EReal}
    {kv kv' : Fin 256 → Fin 2048 → EReal} (hv : ∀ c, v c = v' c) (hg : ∀ c, g c = g' c) (hq : ∀ k j, wq k j = wq' k j)
    (hk : ∀ m j, kv m j = kv' m j) (ho : ∀ j c, wo j c = wo' j c) (c : Fin 1024) :
    attnRow v g wq kv wo c = attnRow v' g' wq' kv' wo' c := by
  obtain rfl := funext hv
  obtain rfl := funext hg
  obtain rfl : wq = wq' := funext fun k => funext (hq k)
  obtain rfl : kv = kv' := funext fun m => funext (hk m)
  obtain rfl : wo = wo' := funext fun j => funext (ho j)
  rfl

/-- Reading a whole buffer back after a list of stores gives what the stores left, index by index. -/
theorem readCov_all {Val : EltTy → Type} [∀ e, Nonempty (Val e)] {S : Shape} {e : EltTy} {sig : RefSig} {κ : Kind}
    {sp : Space} (v : View sig κ sp S e) (L : List (View.Piece Val S e)) {off : Fin S.rank → ℕ}
    (inb : ∀ a, off a + S.size a ≤ S.size a) (h : ∀ a, off a = 0) :
    v.readCov L (Rect.unit off (no_index S.size) inb).toLoadRect = View.canon L := by
  obtain rfl := View.eq_zero_of_forall h
  rw [View.readCov_eq_canon']
  exact View.ld_unit_zero rfl inb (View.canon L)

end Layer

end
-- ==== Proof.PostPure.lean ====
/- The cross-attention kernel's arithmetic on one block, entry by entry. -/
module

public import proofs.«01_k».proof.Proof.Gen.PostIdeal.Value
public import proofs.«01_k».proof.Proof.Spec
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.PostIdeal.Value

open Cert.PostIdeal Cert.PostIdeal.Gen

section
variable (x : FVec Ideal S1x1024x1024 .f32) (y : FVec Ideal S1x1024x1024 .bf16) (w : FVec Ideal S1024x1024 .bf16)
  (g : FVec Ideal S1x1024 .f32) (wq : FVec Ideal S1024x1024 .bf16) (kv : FVec Ideal S1x256x2048 .bf16)
  (a b : FVec Ideal S1024x1024 .f32)

/-- The residual stream after the output projection. -/
theorem pay8_at (r c : Fin 1024) :
    k0_pay8 (F := Ideal) x y w (ix2 r c) = x (ix3 0 r c) + ∑ k : Fin 1024, y (ix3 0 r k) * w (ix2 k c) := by
  pointwise [k0_pay8]

/-- The query: the normalised stream times the query weights. -/
theorem query_at (r j : Fin 1024) :
    k0_pay13 (F := Ideal) (k0_pay11 x y w) (k0_pay12 g) wq (ix2 r j)
      = ∑ k, Layer.rms (fun l => k0_pay8 (F := Ideal) x y w (ix2 r l)) (fun l => g (ix2 0 l)) k * wq (ix2 k j) := by
  pointwise [k0_pay13, k0_pay11, k0_pay12, Layer.rms]

/-- Scaled scores of head 1. -/
theorem score1_at (r : Fin 1024) (m : Fin 256) :
    k0_pay15 (F := Ideal) a b wq kv (ix2 r m)
      = Layer.score (fun j => k0_pay13 (F := Ideal) a b wq (ix2 r j)) (fun m j => kv (ix3 0 m j)) 1 m := by
  rw [Layer.score_off _ _ _ _ 256 rfl]
  pointwise [k0_pay15, k0_pay14]

/-- Scaled scores of head 2. -/
theorem score2_at (r : Fin 1024) (m : Fin 256) :
    k0_pay16 (F := Ideal) a b wq kv (ix2 r m)
      = Layer.score (fun j => k0_pay13 (F := Ideal) a b wq (ix2 r j)) (fun m j => kv (ix3 0 m j)) 2 m := by
  rw [Layer.score_off _ _ _ _ 512 rfl]
  pointwise [k0_pay16, k0_pay14]

/-- Scaled scores of head 3. -/
theorem score3_at (r : Fin 1024) (m : Fin 256) :
    k0_pay17 (F := Ideal) a b wq kv (ix2 r m)
      = Layer.score (fun j => k0_pay13 (F := Ideal) a b wq (ix2 r j)) (fun m j => kv (ix3 0 m j)) 3 m := by
  rw [Layer.score_off _ _ _ _ 768 rfl]
  pointwise [k0_pay17, k0_pay14]

/-- The row maximum of head 1's scores, spread over the row. -/
theorem top1_at (r : Fin 1024) (m : Fin 256) :
    k0_pay19 (F := Ideal) a b wq kv (ix2 r m)
      = Layer.top (Layer.score (fun j => k0_pay13 (F := Ideal) a b wq (ix2 r j)) (fun m j => kv (ix3 0 m j)) 1) := by
  pointwise [k0_pay19, score1_at, Layer.top]

/-- The attention of head 0. -/
theorem head0_at (r : Fin 1024) (d : Fin 256) :
    k0_pay18 (F := Ideal) a b wq kv (ix2 r d)
      = Layer.att (fun j => k0_pay13 (F := Ideal) a b wq (ix2 r j)) (fun m j => kv (ix3 0 m j)) 0 d := by
  have e : ∀ m, Layer.score (fun j => k0_pay13 (F := Ideal) a b wq (ix2 r j)) (fun m j => kv (ix3 0 m j)) 0 m = _ :=
    fun m => Layer.score_off _ _ 0 m 0 rfl
  unfold Layer.att Layer.soft Layer.top
  simp only [funext e]
  pointwise [k0_pay18, k0_pay14]
end

/-- The stored block from its ingredients: the four heads side by side, projected, plus the stream. -/
theorem pay1_at (v11 : FVec Ideal S1024x1024 .f32) (v36 : FVec Ideal S256x2048 .bf16) (v46 : FVec Ideal S1024x256 .f32)
    (v51 : FVec Ideal S1024x256 .f32) (v56 : FVec Ideal S1024x256 .f32) (v68 : FVec Ideal S1024x256 .f32)
    (v71 : FVec Ideal S1024x256 .f32) (v107 : FVec Ideal S1024x1024 .bf16)
    (q : Fin 1024 → EReal) (kv : Fin 256 → Fin 2048 → EReal) (r : Fin 1024) (c : Fin 1024)
    (h36 : ∀ m j, v36 (ix2 m j) = kv m j) (h68 : ∀ d, v68 (ix2 r d) = Layer.att q kv 0 d)
    (h46 : ∀ m, v46 (ix2 r m) = Layer.score q kv 1 m) (h71 : ∀ m, v71 (ix2 r m) = Layer.top (Layer.score q kv 1))
    (h51 : ∀ m, v51 (ix2 r m) = Layer.score q kv 2 m) (h56 : ∀ m, v56 (ix2 r m) = Layer.score q kv 3 m) :
    k0_pay1 (F := Ideal) v11 v36 v46 v51 v56 v68 v71 v107 (ix3 0 r c)
      = v11 (ix2 r c) + ∑ j : Fin 1024, Layer.att q kv ⟨j.val / 256, by omega⟩ ⟨j.val % 256, by omega⟩ * v107 (ix2 j c) := by
  pointwise [k0_pay1, h36, h68, h46, h71, h51, h56]
  refine congrArg _ (Finset.sum_congr rfl fun j _ => congrArg (· * v107 (ix2 j c)) ?_)
  have hj := j.isLt
  by_cases h0 : (j : ℕ) < 256
  · rw [dif_pos h0]
    exact congrArg₂ (Layer.att q kv) (Fin.ext (by simp; omega)) (Fin.ext (by simp; omega))
  · rw [dif_neg h0]
    by_cases h1 : (j : ℕ) - 256 < 256
    · rw [dif_pos h1, show (⟨j.val / 256, by omega⟩ : Fin 4) = 1 from Fin.ext (by simp; omega)]
      exact Finset.sum_congr rfl fun m _ => congrArg₂ (· * ·) rfl (congrArg (kv m) (Fin.ext (by simp; omega)))
    · rw [dif_neg h1]
      by_cases h2 : (j : ℕ) - 256 - 256 < 256
      · rw [dif_pos h2, show (⟨j.val / 256, by omega⟩ : Fin 4) = 2 from Fin.ext (by simp; omega)]
        exact Finset.sum_congr rfl fun m _ => congrArg₂ (· * ·) rfl (congrArg (kv m) (Fin.ext (by simp; omega)))
      · rw [dif_neg h2, show (⟨j.val / 256, by omega⟩ : Fin 4) = 3 from Fin.ext (by simp; omega)]
        exact Finset.sum_congr rfl fun m _ => congrArg₂ (· * ·) rfl (congrArg (kv m) (Fin.ext (by simp; omega)))

/-- The kernel's block at row `r`, column `c`. -/
theorem block_at (x : FVec Ideal S1x1024x1024 .f32) (y : FVec Ideal S1x1024x1024 .bf16) (w : FVec Ideal S1024x1024 .bf16)
    (g : FVec Ideal S1x1024 .f32) (wq : FVec Ideal S1024x1024 .bf16) (kv : FVec Ideal S1x256x2048 .bf16)
    (wo : FVec Ideal S1024x1024 .bf16) (r c : Fin 1024) :
    k0_pay1 (F := Ideal) (k0_pay8 x y w) (k0_pay14 kv)
      (k0_pay15 (k0_pay11 x y w) (k0_pay12 g) wq kv) (k0_pay16 (k0_pay11 x y w) (k0_pay12 g) wq kv)
      (k0_pay17 (k0_pay11 x y w) (k0_pay12 g) wq kv) (k0_pay18 (k0_pay11 x y w) (k0_pay12 g) wq kv)
      (k0_pay19 (k0_pay11 x y w) (k0_pay12 g) wq kv) wo (ix3 0 r c)
      = Layer.attnRow (fun c => x (ix3 0 r c) + ∑ k : Fin 1024, y (ix3 0 r k) * w (ix2 k c)) (fun l => g (ix2 0 l))
          (fun k j => wq (ix2 k j)) (fun m j => kv (ix3 0 m j)) (fun j c => wo (ix2 j c)) c := by
  refine (pay1_at _ _ _ _ _ _ _ _ _ (fun m j => kv (ix3 0 m j)) r c (fun m j => ?_) (head0_at _ _ _ _ r) (score1_at _ _ _ _ r)
    (top1_at _ _ _ _ r) (score2_at _ _ _ _ r) (score3_at _ _ _ _ r)).trans ?_
  · pointwise [k0_pay14]
  · simp only [query_at, pay8_at]
    rfl

end Cert.PostIdeal.Value

end
-- ==== Proof.PostValue.lean ====
/- Value of the cross-attention call at the ideal numbers: blocks, weight scratches and the three results. -/
module

public import proofs.«01_k».proof.Proof.Gen.PostIdeal.Value
public import proofs.«01_k».proof.Proof.Spec
public import proofs.«01_k».proof.Proof.PostPure
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.PostIdeal.Value

open Cert.PostIdeal Cert.PostIdeal.Gen

variable (m : (ℓ : Loc nD τ sig) → Buf (Elt Ideal) ℓ)

/-- The layer's row after the cross-attention, for every batch, row and column of the whole arrays. -/
def G (x : FVec Ideal S8x2048x1024 .f32) (y : FVec Ideal S8x2048x1024 .bf16) (w : FVec Ideal S1024x1024 .f32)
    (g : FVec Ideal S1x1024 .f32) (wq : FVec Ideal S1024x1024 .f32) (kv : FVec Ideal S8x256x2048 .bf16)
    (wo : FVec Ideal S1024x1024 .f32) : FVec Ideal S8x2048x1024 .f32 :=
  fun i => Layer.attnRow (fun c => x (ix3 (i 0) (i 1) c) + ∑ k : Fin 1024, y (ix3 (i 0) (i 1) k) * w (ix2 k c))
    (fun l => g (ix2 0 l)) (fun k j => wq (ix2 k j)) (fun m j => kv (ix3 (i 0) m j)) (fun j c => wo (ix2 j c)) (i 2)

/-- Which block each window takes at a grid point: two row blocks to a batch, the sixteen weight slices one to a point. -/
theorem idx_val : ∀ t : Fin cfg0.N, win0_0.index t = ![t.val / 2, t.val % 2, 0]
    ∧ win0_1.index t = ![t.val / 2, t.val % 2, 0]
    ∧ win0_2.index t = ![0, 0]
    ∧ win0_3.index t = ![0, 0]
    ∧ win0_4.index t = ![0, 0]
    ∧ win0_5.index t = ![t.val / 2, 0, 0]
    ∧ win0_6.index t = ![0, 0]
    ∧ win0_7.index t = ![0, t.val]
    ∧ win0_8.index t = ![t.val, 0]
    ∧ win0_9.index t = ![t.val / 2, t.val % 2, 0]
    ∧ win0_10.index t = ![0, t.val]
    ∧ win0_11.index t = ![t.val, 0] :=
  (by decide +kernel : ∀ t : Fin grid0.N, _)

/-- The first grid point fills scratch 0 with the whole weight matrix of argument 2. -/
theorem fill_0 (c : Dev nD) (t : Fin cfg0.N) (h0 : t.val % 16 = 0) (y) :
    (sout0_A_0 c (grid0.coords t) (ms0_0 t) (hs0_0 t) (ms0_1 t) (hs0_1 t) (ms0_2 t) (hs0_2 t) (ms0_3 t) (hs0_3 t) (ms0_4 t)
        (hs0_4 t) (ms0_5 t) (hs0_5 t) (ms0_6 t) (hs0_6 t) (ms0_7 t) (hs0_7 t) (ms0_8 t) (hs0_8 t) (ms0_9 t) (hs0_9 t) (ms0_10
        t) (hs0_10 t) (ms0_11 t) (hs0_11 t) scM0_0 (Memref.isWhole_whole _) scM0_1 (Memref.isWhole_whole _) scM0_2
        (Memref.isWhole_whole _) ((hcond0_0 t).mpr h0) (iblk m c 0 t) (iblk m c 1 t) (iblk m c 2 t) (iblk m c 3 t) (iblk m c 4
        t) (iblk m c 5 t) (iblk m c 6 t) (iblk m c 7 t) (iblk m c 8 t)) y = ((m ((c : Thread nD τ).loc main_arg2)) : FVec
        Ideal S1024x1024 .f32) y := by
  frame_out
  canon_tiles x h
  all_goals (open_payloads; pointwise)
  all_goals blk_point [iblk, V, idx_val t]

/-- The first grid point fills scratch 1 with the whole weight matrix of argument 4. -/
theorem fill_1 (c : Dev nD) (t : Fin cfg0.N) (h0 : t.val % 16 = 0) (y) :
    (sout0_A_1 c (grid0.coords t) (ms0_0 t) (hs0_0 t) (ms0_1 t) (hs0_1 t) (ms0_2 t) (hs0_2 t) (ms0_3 t) (hs0_3 t) (ms0_4 t)
        (hs0_4 t) (ms0_5 t) (hs0_5 t) (ms0_6 t) (hs0_6 t) (ms0_7 t) (hs0_7 t) (ms0_8 t) (hs0_8 t) (ms0_9 t) (hs0_9 t) (ms0_10
        t) (hs0_10 t) (ms0_11 t) (hs0_11 t) scM0_0 (Memref.isWhole_whole _) scM0_1 (Memref.isWhole_whole _) scM0_2
        (Memref.isWhole_whole _) ((hcond0_0 t).mpr h0) (iblk m c 0 t) (iblk m c 1 t) (iblk m c 2 t) (iblk m c 3 t) (iblk m c 4
        t) (iblk m c 5 t) (iblk m c 6 t) (iblk m c 7 t) (iblk m c 8 t)) y = ((m ((c : Thread nD τ).loc main_arg4)) : FVec
        Ideal S1024x1024 .f32) y := by
  frame_out
  canon_tiles x h
  all_goals (open_payloads; pointwise)
  all_goals blk_point [iblk, V, idx_val t]

/-- The first grid point fills scratch 2 with the whole weight matrix of argument 6. -/
theorem fill_2 (c : Dev nD) (t : Fin cfg0.N) (h0 : t.val % 16 = 0) (y) :
    (sout0_A_2 c (grid0.coords t) (ms0_0 t) (hs0_0 t) (ms0_1 t) (hs0_1 t) (ms0_2 t) (hs0_2 t) (ms0_3 t) (hs0_3 t) (ms0_4 t)
        (hs0_4 t) (ms0_5 t) (hs0_5 t) (ms0_6 t) (hs0_6 t) (ms0_7 t) (hs0_7 t) (ms0_8 t) (hs0_8 t) (ms0_9 t) (hs0_9 t) (ms0_10
        t) (hs0_10 t) (ms0_11 t) (hs0_11 t) scM0_0 (Memref.isWhole_whole _) scM0_1 (Memref.isWhole_whole _) scM0_2
        (Memref.isWhole_whole _) ((hcond0_0 t).mpr h0) (iblk m c 0 t) (iblk m c 1 t) (iblk m c 2 t) (iblk m c 3 t) (iblk m c 4
        t) (iblk m c 5 t) (iblk m c 6 t) (iblk m c 7 t) (iblk m c 8 t)) y = ((m ((c : Thread nD τ).loc main_arg6)) : FVec
        Ideal S1024x1024 .f32) y := by
  frame_out
  canon_tiles x h
  all_goals (open_payloads; pointwise)
  all_goals blk_point [iblk, V, idx_val t]

/-- The three weight scratches hold the three weight matrices. -/
abbrev Filled (c : Dev nD) (n : ℕ) (hn : n < cfg0.N) : Prop :=
  (outsAt0 m c n hn).2.2.2.1 = ((m ((c : Thread nD τ).loc main_arg2)) : FVec Ideal S1024x1024 .f32)
    ∧ (outsAt0 m c n hn).2.2.2.2.1 = ((m ((c : Thread nD τ).loc main_arg4)) : FVec Ideal S1024x1024 .f32)
    ∧ (outsAt0 m c n hn).2.2.2.2.2 = ((m ((c : Thread nD τ).loc main_arg6)) : FVec Ideal S1024x1024 .f32)

/-- They do after the first grid point. -/
theorem filled_A (c : Dev nD) (t : Fin cfg0.N) (h0 : t.val % 16 = 0) : Filled m c t.val t.isLt := by
  unfold Filled
  rw [outsAt0_A m c t h0]
  dsimp only
  exact ⟨funext fun y => fill_0 m c t h0 y, funext fun y => fill_1 m c t h0 y, funext fun y => fill_2 m c t h0 y⟩

/-- Every later point leaves the scratches as it found them. -/
theorem filled_B (c : Dev nD) (t : Fin cfg0.N) (h0 : ¬t.val % 16 = 0)
    (h : Filled m c (t.val - 1) (Nat.lt_of_le_of_lt (Nat.sub_le _ _) t.isLt)) : Filled m c t.val t.isLt := by
  unfold Filled at h ⊢
  rw [outsAt0_B m c t h0]
  dsimp only
  unfold sout0_B_0 sout0_B_1 sout0_B_2
  exact h

/-- So they hold the weights after every point. -/
theorem filled (c : Dev nD) : ∀ (n : ℕ) (hn : n < cfg0.N), Filled m c n hn
  | 0, hn => filled_A m c ⟨0, hn⟩ rfl
  | n + 1, hn => by
    by_cases h : (n + 1) % 16 = 0
    · exact filled_A m c ⟨n + 1, hn⟩ h
    · exact filled_B m c ⟨n + 1, hn⟩ h (filled c n _)

/-- The main result's block at a point of the filling kind. -/
theorem point_9_A (c : Dev nD) (t : Fin cfg0.N) (h0 : t.val % 16 = 0) (y) :
    (out0_A_9 c (grid0.coords t) (ms0_0 t) (hs0_0 t) (ms0_1 t) (hs0_1 t) (ms0_2 t) (hs0_2 t) (ms0_3 t) (hs0_3 t) (ms0_4 t)
        (hs0_4 t) (ms0_5 t) (hs0_5 t) (ms0_6 t) (hs0_6 t) (ms0_7 t) (hs0_7 t) (ms0_8 t) (hs0_8 t) (ms0_9 t) (hs0_9 t) (ms0_10
        t) (hs0_10 t) (ms0_11 t) (hs0_11 t) scM0_0 (Memref.isWhole_whole _) scM0_1 (Memref.isWhole_whole _) scM0_2
        (Memref.isWhole_whole _) ((hcond0_0 t).mpr h0) (iblk m c 0 t) (iblk m c 1 t) (iblk m c 2 t) (iblk m c 3 t) (iblk m c 4
        t) (iblk m c 5 t) (iblk m c 6 t) (iblk m c 7 t) (iblk m c 8 t)) y = G (m ((c : Thread nD τ).loc main_arg0)) (m ((c :
        Thread nD τ).loc main_arg1)) (m ((c : Thread nD τ).loc main_arg2)) (m ((c : Thread nD τ).loc main_arg3)) (m ((c :
        Thread nD τ).loc main_arg4)) (m ((c : Thread nD τ).loc main_arg5)) (m ((c : Thread nD τ).loc main_arg6)) (((cfg0.win
        9).blk t).view.emb y) := by
  frame_out
  idx_vars y
  obtain rfl : y0 = 0 := Subsingleton.elim _ _
  refine (block_at _ _ _ _ _ _ _ y1 y2).trans ?_
  unfold G
  refine (Layer.attnRow_congr (fun j => congrArg₂ (fun a b : EReal => a + b) ?_ (Finset.sum_congr rfl fun k _ => Ideal.mul_congr ?_ ?_))
    (fun j => ?_) (fun k j => ?_) (fun k j => ?_) (fun k j => ?_) _).trans (congrArg (Layer.attnRow _ _ _ _ _) ?_)
  · blk_point [iblk, V, idx_val t]
  · blk_point [iblk, V, idx_val t]
  · rw [Layer.readCov_all _ _ _ (by decide)]
    refine Eq.trans (b := ((m ((c : Thread nD τ).loc main_arg2)) : FVec Ideal S1024x1024 .f32) (ix2 k j)) ?_ ?_
    · generalize (ix2 k j : S1024x1024.Idx) = y
      canon_tiles x h
      all_goals (open_payloads; pointwise; blk_point [iblk, V, idx_val t])
    · blk_point [iblk, V, idx_val t]
  · blk_point [iblk, V, idx_val t]
  · rw [Layer.readCov_all _ _ _ (by decide)]
    refine Eq.trans (b := ((m ((c : Thread nD τ).loc main_arg4)) : FVec Ideal S1024x1024 .f32) (ix2 k j)) ?_ ?_
    · generalize (ix2 k j : S1024x1024.Idx) = y
      canon_tiles x h
      all_goals (open_payloads; pointwise; blk_point [iblk, V, idx_val t])
    · blk_point [iblk, V, idx_val t]
  · blk_point [iblk, V, idx_val t]
  · rw [Layer.readCov_all _ _ _ (by decide)]
    refine Eq.trans (b := ((m ((c : Thread nD τ).loc main_arg6)) : FVec Ideal S1024x1024 .f32) (ix2 k j)) ?_ ?_
    · generalize (ix2 k j : S1024x1024.Idx) = y
      canon_tiles x h
      all_goals (open_payloads; pointwise; blk_point [iblk, V, idx_val t])
    · blk_point [iblk, V, idx_val t]
  · refine Fin.ext ?_
    blk_simp [idx_val t]

/-- The main result's block at a point of any other kind. -/
theorem point_9_B (c : Dev nD) (t : Fin cfg0.N) (h0 : ¬t.val % 16 = 0) (y) :
    (out0_B_9 c (grid0.coords t) (ms0_0 t) (hs0_0 t) (ms0_1 t) (hs0_1 t) (ms0_2 t) (hs0_2 t) (ms0_3 t) (hs0_3 t) (ms0_4 t)
        (hs0_4 t) (ms0_5 t) (hs0_5 t) (ms0_6 t) (hs0_6 t) (ms0_7 t) (hs0_7 t) (ms0_8 t) (hs0_8 t) (ms0_9 t) (hs0_9 t) (ms0_10
        t) (hs0_10 t) (ms0_11 t) (hs0_11 t) scM0_0 (Memref.isWhole_whole _) scM0_1 (Memref.isWhole_whole _) scM0_2
        (Memref.isWhole_whole _) (fun h => h0 ((hcond0_0 t).mp h)) (iblk m c 0 t) (iblk m c 1 t) (iblk m c 2 t) (iblk m c 3 t)
        (iblk m c 4 t) (iblk m c 5 t) (iblk m c 6 t) (iblk m c 7 t) (iblk m c 8 t) (outsAt0 m c (t.val - 1)
        (Nat.lt_of_le_of_lt (Nat.sub_le _ _) t.isLt)).2.2.2.1 (outsAt0 m c (t.val - 1) (Nat.lt_of_le_of_lt (Nat.sub_le _ _)
        t.isLt)).2.2.2.2.1 (outsAt0 m c (t.val - 1) (Nat.lt_of_le_of_lt (Nat.sub_le _ _) t.isLt)).2.2.2.2.2) y = G (m ((c :
        Thread nD τ).loc main_arg0)) (m ((c : Thread nD τ).loc main_arg1)) (m ((c : Thread nD τ).loc main_arg2)) (m ((c :
        Thread nD τ).loc main_arg3)) (m ((c : Thread nD τ).loc main_arg4)) (m ((c : Thread nD τ).loc main_arg5)) (m ((c :
        Thread nD τ).loc main_arg6)) (((cfg0.win 9).blk t).view.emb y) := by
  frame_out
  idx_vars y
  obtain rfl : y0 = 0 := Subsingleton.elim _ _
  refine (block_at _ _ _ _ _ _ _ y1 y2).trans ?_
  unfold G
  refine (Layer.attnRow_congr (fun j => congrArg₂ (fun a b : EReal => a + b) ?_ (Finset.sum_congr rfl fun k _ => Ideal.mul_congr ?_ ?_))
    (fun j => ?_) (fun k j => ?_) (fun k j => ?_) (fun k j => ?_) _).trans (congrArg (Layer.attnRow _ _ _ _ _) ?_)
  · blk_point [iblk, V, idx_val t]
  · blk_point [iblk, V, idx_val t]
  · refine (congrFun ((Memref.isWhole_whole cc0_scratch0).read_unread _) _).trans ?_
    rw [(filled m c _ _).1]
    blk_ext [V, idx_val t]
  · blk_point [iblk, V, idx_val t]
  · refine (congrFun ((Memref.isWhole_whole cc0_scratch1).read_unread _) _).trans ?_
    rw [(filled m c _ _).2.1]
    blk_ext [V, idx_val t]
  · blk_point [iblk, V, idx_val t]
  · refine (congrFun ((Memref.isWhole_whole cc0_scratch2).read_unread _) _).trans ?_
    rw [(filled m c _ _).2.2]
    blk_ext [V, idx_val t]
  · refine Fin.ext ?_
    blk_simp [idx_val t]

/-- The main result after the last grid point. -/
theorem final_9 (c : Dev nD) : (dats m 0 c).arrAt 9 (cfgs 0).N = G (m ((c : Thread nD τ).loc main_arg0)) (m ((c : Thread nD
    τ).loc main_arg1)) (m ((c : Thread nD τ).loc main_arg2)) (m ((c : Thread nD τ).loc main_arg3)) (m ((c : Thread nD τ).loc
    main_arg4)) (m ((c : Thread nD τ).loc main_arg5)) (m ((c : Thread nD τ).loc main_arg6)) := by
  refine (dats m 0 c).arrAt_eq_of_covers 9 _ (by decide +kernel) fun t hf y => ?_
  blk_simp; rw [after0_9]
  by_cases h : t.val % 16 = 0
  · rw [outsAt0_A m c t h]; dsimp only; exact point_9_A m c t h y
  · rw [outsAt0_B m c t h]; dsimp only; exact point_9_B m c t h y

/-- Result 1 is a copy of argument 7: its slice at a point of the filling kind. -/
theorem point_10_A (c : Dev nD) (t : Fin cfg0.N) (h0 : t.val % 16 = 0) (y) :
    (out0_A_10 c (grid0.coords t) (ms0_0 t) (hs0_0 t) (ms0_1 t) (hs0_1 t) (ms0_2 t) (hs0_2 t) (ms0_3 t) (hs0_3 t) (ms0_4 t)
        (hs0_4 t) (ms0_5 t) (hs0_5 t) (ms0_6 t) (hs0_6 t) (ms0_7 t) (hs0_7 t) (ms0_8 t) (hs0_8 t) (ms0_9 t) (hs0_9 t) (ms0_10
        t) (hs0_10 t) (ms0_11 t) (hs0_11 t) scM0_0 (Memref.isWhole_whole _) scM0_1 (Memref.isWhole_whole _) scM0_2
        (Memref.isWhole_whole _) ((hcond0_0 t).mpr h0) (iblk m c 0 t) (iblk m c 1 t) (iblk m c 2 t) (iblk m c 3 t) (iblk m c 4
        t) (iblk m c 5 t) (iblk m c 6 t) (iblk m c 7 t) (iblk m c 8 t)) y = ((m ((c : Thread nD τ).loc main_arg7)) : FVec
        Ideal S1024x4096 .f32) (((cfg0.win 10).blk t).view.emb y) := by
  frame_out
  pointwise [k0_pay9]
  blk_point [iblk, V, idx_val t]

/-- Result 1 is a copy of argument 7: its slice at a point of any other kind. -/
theorem point_10_B (c : Dev nD) (t : Fin cfg0.N) (h0 : ¬t.val % 16 = 0) (y) :
    (out0_B_10 c (grid0.coords t) (ms0_0 t) (hs0_0 t) (ms0_1 t) (hs0_1 t) (ms0_2 t) (hs0_2 t) (ms0_3 t) (hs0_3 t) (ms0_4 t)
        (hs0_4 t) (ms0_5 t) (hs0_5 t) (ms0_6 t) (hs0_6 t) (ms0_7 t) (hs0_7 t) (ms0_8 t) (hs0_8 t) (ms0_9 t) (hs0_9 t) (ms0_10
        t) (hs0_10 t) (ms0_11 t) (hs0_11 t) scM0_0 (Memref.isWhole_whole _) scM0_1 (Memref.isWhole_whole _) scM0_2
        (Memref.isWhole_whole _) (fun h => h0 ((hcond0_0 t).mp h)) (iblk m c 0 t) (iblk m c 1 t) (iblk m c 2 t) (iblk m c 3 t)
        (iblk m c 4 t) (iblk m c 5 t) (iblk m c 6 t) (iblk m c 7 t) (iblk m c 8 t) (outsAt0 m c (t.val - 1)
        (Nat.lt_of_le_of_lt (Nat.sub_le _ _) t.isLt)).2.2.2.1 (outsAt0 m c (t.val - 1) (Nat.lt_of_le_of_lt (Nat.sub_le _ _)
        t.isLt)).2.2.2.2.1 (outsAt0 m c (t.val - 1) (Nat.lt_of_le_of_lt (Nat.sub_le _ _) t.isLt)).2.2.2.2.2) y = ((m ((c :
        Thread nD τ).loc main_arg7)) : FVec Ideal S1024x4096 .f32) (((cfg0.win 10).blk t).view.emb y) := by
  frame_out
  pointwise [k0_pay9]
  blk_point [iblk, V, idx_val t]

/-- Result 1 after the last grid point. -/
theorem final_10 (c : Dev nD) : (dats m 0 c).arrAt 10 (cfgs 0).N = ((m ((c : Thread nD τ).loc main_arg7)) : FVec Ideal
    S1024x4096 .f32) := by
  refine (dats m 0 c).arrAt_eq_of_covers 10 _ (by decide +kernel) fun t hf y => ?_
  blk_simp; rw [after0_10]
  by_cases h : t.val % 16 = 0
  · rw [outsAt0_A m c t h]; dsimp only; exact point_10_A m c t h y
  · rw [outsAt0_B m c t h]; dsimp only; exact point_10_B m c t h y

/-- Result 2 is a copy of argument 8: its slice at a point of the filling kind. -/
theorem point_11_A (c : Dev nD) (t : Fin cfg0.N) (h0 : t.val % 16 = 0) (y) :
    (out0_A_11 c (grid0.coords t) (ms0_0 t) (hs0_0 t) (ms0_1 t) (hs0_1 t) (ms0_2 t) (hs0_2 t) (ms0_3 t) (hs0_3 t) (ms0_4 t)
        (hs0_4 t) (ms0_5 t) (hs0_5 t) (ms0_6 t) (hs0_6 t) (ms0_7 t) (hs0_7 t) (ms0_8 t) (hs0_8 t) (ms0_9 t) (hs0_9 t) (ms0_10
        t) (hs0_10 t) (ms0_11 t) (hs0_11 t) scM0_0 (Memref.isWhole_whole _) scM0_1 (Memref.isWhole_whole _) scM0_2
        (Memref.isWhole_whole _) ((hcond0_0 t).mpr h0) (iblk m c 0 t) (iblk m c 1 t) (iblk m c 2 t) (iblk m c 3 t) (iblk m c 4
        t) (iblk m c 5 t) (iblk m c 6 t) (iblk m c 7 t) (iblk m c 8 t)) y = ((m ((c : Thread nD τ).loc main_arg8)) : FVec
        Ideal S4096x1024 .f32) (((cfg0.win 11).blk t).view.emb y) := by
  frame_out
  pointwise [k0_pay10]
  blk_point [iblk, V, idx_val t]

/-- Result 2 is a copy of argument 8: its slice at a point of any other kind. -/
theorem point_11_B (c : Dev nD) (t : Fin cfg0.N) (h0 : ¬t.val % 16 = 0) (y) :
    (out0_B_11 c (grid0.coords t) (ms0_0 t) (hs0_0 t) (ms0_1 t) (hs0_1 t) (ms0_2 t) (hs0_2 t) (ms0_3 t) (hs0_3 t) (ms0_4 t)
        (hs0_4 t) (ms0_5 t) (hs0_5 t) (ms0_6 t) (hs0_6 t) (ms0_7 t) (hs0_7 t) (ms0_8 t) (hs0_8 t) (ms0_9 t) (hs0_9 t) (ms0_10
        t) (hs0_10 t) (ms0_11 t) (hs0_11 t) scM0_0 (Memref.isWhole_whole _) scM0_1 (Memref.isWhole_whole _) scM0_2
        (Memref.isWhole_whole _) (fun h => h0 ((hcond0_0 t).mp h)) (iblk m c 0 t) (iblk m c 1 t) (iblk m c 2 t) (iblk m c 3 t)
        (iblk m c 4 t) (iblk m c 5 t) (iblk m c 6 t) (iblk m c 7 t) (iblk m c 8 t) (outsAt0 m c (t.val - 1)
        (Nat.lt_of_le_of_lt (Nat.sub_le _ _) t.isLt)).2.2.2.1 (outsAt0 m c (t.val - 1) (Nat.lt_of_le_of_lt (Nat.sub_le _ _)
        t.isLt)).2.2.2.2.1 (outsAt0 m c (t.val - 1) (Nat.lt_of_le_of_lt (Nat.sub_le _ _) t.isLt)).2.2.2.2.2) y = ((m ((c :
        Thread nD τ).loc main_arg8)) : FVec Ideal S4096x1024 .f32) (((cfg0.win 11).blk t).view.emb y) := by
  frame_out
  pointwise [k0_pay10]
  blk_point [iblk, V, idx_val t]

/-- Result 2 after the last grid point. -/
theorem final_11 (c : Dev nD) : (dats m 0 c).arrAt 11 (cfgs 0).N = ((m ((c : Thread nD τ).loc main_arg8)) : FVec Ideal
    S4096x1024 .f32) := by
  refine (dats m 0 c).arrAt_eq_of_covers 11 _ (by decide +kernel) fun t hf y => ?_
  blk_simp; rw [after0_11]
  by_cases h : t.val % 16 = 0
  · rw [outsAt0_A m c t h]; dsimp only; exact point_11_A m c t h y
  · rw [outsAt0_B m c t h]; dsimp only; exact point_11_B m c t h y

end Cert.PostIdeal.Value

end
-- ==== Proof.PostRefValue.lean ====
/- Value of the cross-attention reference at an index, one stage after the other. -/
module

public import proofs.«01_k».proof.Proof.Gen.PostRefIdeal.Read
public import proofs.«01_k».proof.Proof.Spec
public import Idealize.ShloMosaic.Lib.Pointwise

@[expose] public section

set_option maxRecDepth 16384

noncomputable section

open Idealize.ShloMosaic Idealize.ShloMosaic.TcCoe Idealize.SL.Sem
open scoped BigOperators

namespace Cert.PostRefIdeal.Read

open Cert.PostRefIdeal Cert.PostRefIdeal.Gen

/-- The residual stream after the output projection. -/
theorem stream_at (x : FVec Ideal S8x2048x1024 .f32) (y : FVec Ideal S8x2048x1024 .bf16) (w : FVec Ideal S1024x1024 .f32) (b : Fin 8) (r : Fin 2048) (c : Fin 1024) :
    val_main_v3 (F := Ideal) x y w (ix3 b r c) = x (ix3 b r c) + ∑ k : Fin 1024, y (ix3 b r k) * w (ix2 k c) := by
  pointwise [val_main_v3, val_main_v2, val_main_v0]

/-- The query. -/
theorem q_at (x : FVec Ideal S8x2048x1024 .f32) (y : FVec Ideal S8x2048x1024 .bf16) (w : FVec Ideal S1024x1024 .f32) (g : FVec Ideal S1x1024 .f32) (wq : FVec Ideal S1024x1024 .f32) (b : Fin 8) (r : Fin 2048) (c : Fin 1024) :
    val_main_v18 (F := Ideal) x y w g wq (ix3 b r c) = ∑ k, Layer.rms (fun l => x (ix3 b r l) + ∑ k : Fin 1024, y (ix3 b r k) * w (ix2 k l)) (fun l => g (ix2 0 l)) k * wq (ix2 k c) := by
  pointwise [val_main_v18, val_main_v17, val_main_v16, val_main_v15, val_main_v14, val_main_v13, val_main_v12, val_main_v11, val_main_v10, val_main_v9, val_main_v8, val_main_v7, val_main_v6, val_main_v5, val_main_v4, val_main_cst, val_main_cst_0, val_main_cst_1, Layer.rms, stream_at]

section
variable (x : FVec Ideal S8x2048x1024 .f32) (y : FVec Ideal S8x2048x1024 .bf16) (w : FVec Ideal S1024x1024 .f32) (g : FVec Ideal S1x1024 .f32) (wq : FVec Ideal S1024x1024 .f32) (kv : FVec Ideal S8x256x2048 .bf16) (wo : FVec Ideal S1024x1024 .f32)

/-- The scaled scores of a head. -/
theorem score_at (b : Fin 8) (h : Fin 4) (r : Fin 2048) (m : Fin 256) :
    val_main_v26 (F := Ideal) x y w g wq kv (ix4 b h r m)
      = Layer.score (fun j => val_main_v18 (F := Ideal) x y w g wq (ix3 b r j)) (fun m j => kv (ix3 b m j)) h m := by
  pointwise [val_main_v26, val_main_v25, val_main_v24, val_main_v22, val_main_v20, val_main_v19, val_main_v1, val_main_cst_2, Layer.score]

/-- A maximum over the memory rows, at an index. -/
theorem rowTop_at (s : FVec Ideal S8x4x2048x256 .f32) (c : FVec Ideal S_ .f32) (b : Fin 8) (h : Fin 4) (r : Fin 2048) :
    Host.reduce FloatOps.maximumf s c reducesTo_S8x4x2048x256_S8x4x2048_d3 h_S_ (ix3 b h r)
      = Finset.univ.fold max (c (Shape.Idx.first h_S_)) fun m : Fin 256 => s (ix4 b h r m) := by
  simp only [pointwise]

/-- The row maximum that softmax subtracts. -/
theorem top_at (b : Fin 8) (h : Fin 4) (r : Fin 2048) :
    val_main_v29 (F := Ideal) x y w g wq kv (ix3 b h r)
      = Layer.top (fun m => val_main_v26 (F := Ideal) x y w g wq kv (ix4 b h r m)) := by
  rw [val_main_v29_apply, ← Layer.max_top]
  refine congrArg₂ max ?_ ((rowTop_at _ _ b h r).trans ?_)
  · pointwise [val_main_v28, val_main_cst_4]
  · rfl

/-- The exponentials softmax sums. -/
theorem exp_at (b : Fin 8) (h : Fin 4) (r : Fin 2048) (m : Fin 256) :
    val_main_v33 (F := Ideal) x y w g wq kv (ix4 b h r m)
      = Ideal.exp (val_main_v26 (F := Ideal) x y w g wq kv (ix4 b h r m)
          - Layer.top (fun m => val_main_v26 (F := Ideal) x y w g wq kv (ix4 b h r m))) := by
  pointwise [val_main_v33, val_main_v32, val_main_v31, val_main_v30, top_at]

/-- The attention weights. -/
theorem soft_at (b : Fin 8) (h : Fin 4) (r : Fin 2048) (m : Fin 256) :
    val_main_v37 (F := Ideal) x y w g wq kv (ix4 b h r m)
      = Layer.soft (fun m => val_main_v26 (F := Ideal) x y w g wq kv (ix4 b h r m)) m := by
  pointwise [val_main_v37, val_main_v36, val_main_v35, val_main_v34, val_main_cst_5, exp_at, Layer.soft]

/-- A head's attention output; the reference multiplies in the other order. -/
theorem ctx_at (b : Fin 8) (h : Fin 4) (r : Fin 2048) (d : Fin 256) :
    val_main_v39 (F := Ideal) x y w g wq kv (ix4 b r h d)
      = Layer.att (fun j => val_main_v18 (F := Ideal) x y w g wq (ix3 b r j)) (fun m j => kv (ix3 b m j)) h d := by
  have e : ∀ m, val_main_v37 (F := Ideal) x y w g wq kv (ix4 b h r m)
      = Layer.soft (Layer.score (fun j => val_main_v18 (F := Ideal) x y w g wq (ix3 b r j)) (fun m j => kv (ix3 b m j)) h) m := by
    intro m
    rw [soft_at]
    exact congrFun (congrArg Layer.soft (funext fun n => score_at x y w g wq kv b h r n)) m
  unfold Layer.att
  pointwise [val_main_v39, val_main_v38, val_main_v23, val_main_v21, val_main_v1, e]
  exact Finset.sum_congr rfl fun m _ => mul_comm _ _

/-- The heads laid side by side. -/
theorem merge_at (b : Fin 8) (r : Fin 2048) (j : Fin 1024) :
    val_main_v40 (F := Ideal) x y w g wq kv (ix3 b r j)
      = val_main_v39 (F := Ideal) x y w g wq kv (ix4 b r ⟨j.val / 256, by omega⟩ ⟨j.val % 256, by omega⟩) := by
  pointwise [val_main_v40]

/-- The reference's main result at batch `b`, row `r`, column `c`. -/
theorem out_at (b : Fin 8) (r : Fin 2048) (c : Fin 1024) :
    val_main_v42 (F := Ideal) x y w g wq kv wo (ix3 b r c)
      = Layer.attnRow (fun c => x (ix3 b r c) + ∑ k : Fin 1024, y (ix3 b r k) * w (ix2 k c)) (fun l => g (ix2 0 l))
          (fun k j => wq (ix2 k j)) (fun m j => kv (ix3 b m j)) (fun j c => wo (ix2 j c)) c := by
  unfold Layer.attnRow
  pointwise [val_main_v42, val_main_v41, merge_at, ctx_at, q_at, stream_at]

end

end Cert.PostRefIdeal.Read

end
-- ==== Proof.MlpValue.lean ====
/- Value of the feed-forward call at the ideal numbers: the kernel adds eight groups of 512 hidden units to the row. -/
module

public import proofs.«01_k».proof.Proof.Gen.MlpIdeal.Value
public import proofs.«01_k».proof.Proof.Spec
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.MlpIdeal.Value

open Cert.MlpIdeal Cert.MlpIdeal.Gen

variable (m : (ℓ : Loc nD τ sig) → Buf (Elt Ideal) ℓ)

/-- One group of 512 hidden units at row `r`, column `c`: the kernel's tile of the feed-forward. -/
def tile (h : FVec Ideal S1024x1024 .bf16) (u : FVec Ideal S1024x512 .bf16) (d : FVec Ideal S512x1024 .bf16)
    (r c : Fin 1024) : EReal :=
  ∑ j : Fin 512, Layer.relu2 (∑ k : Fin 1024, h (ix2 r k) * u (ix2 k j)) * d (ix2 j c)

/-- The normalised row. -/
theorem pay2_at (x : FVec Ideal S1024x1024 .f32) (g : FVec Ideal S1x1024 .f32) (r k : Fin 1024) :
    k0_pay2 (F := Ideal) x g (ix2 r k) = Layer.rms (fun l => x (ix2 r l)) (fun l => g (ix2 0 l)) k := by
  pointwise [k0_pay2, Layer.rms]

/-- The row and the first two groups. -/
theorem pay3_at (x : FVec Ideal S1024x1024 .f32) (g : FVec Ideal S1x1024 .f32) (u0 u1 : FVec Ideal S1024x512 .bf16)
    (d0 d1 : FVec Ideal S512x1024 .bf16) (r c : Fin 1024) :
    k0_pay3 (F := Ideal) x g u0 d0 u1 d1 (ix2 r c)
      = x (ix2 r c) + tile (k0_pay2 x g) u0 d0 r c + tile (k0_pay2 x g) u1 d1 r c := by
  pointwise [k0_pay3, tile, Layer.relu2]

/-- Four more groups on top of what came before. -/
theorem pay5_at (x : FVec Ideal S1024x1024 .f32) (g : FVec Ideal S1x1024 .f32) (h : FVec Ideal S1024x1024 .bf16) (acc : FVec Ideal S1024x1024 .f32) (u2 u3 u4 u5 : FVec Ideal S1024x512 .bf16)
    (d2 d3 d4 d5 : FVec Ideal S512x1024 .bf16) (r c : Fin 1024) :
    k0_pay5 (F := Ideal) h acc (k0_pay4 x g u2) d2 u3 d3 u4 d4 u5 d5 (ix2 r c)
      = acc (ix2 r c) + tile (k0_pay2 x g) u2 d2 r c + tile h u3 d3 r c + tile h u4 d4 r c + tile h u5 d5 r c := by
  pointwise [k0_pay5, k0_pay4, tile, Layer.relu2]

/-- The last two groups and the final norm. -/
theorem pay1_at (h : FVec Ideal S1024x1024 .bf16) (acc : FVec Ideal S1024x1024 .f32) (u6 u7 : FVec Ideal S1024x512 .bf16)
    (d6 d7 : FVec Ideal S512x1024 .bf16) (g : FVec Ideal S1x1024 .f32) (r c : Fin 1024) :
    k0_pay1 (F := Ideal) h acc u6 d6 u7 d7 g (ix2 r c)
      = Layer.rms (fun l => acc (ix2 r l) + tile h u6 d6 r l + tile h u7 d7 r l) (fun l => g (ix2 0 l)) c := by
  pointwise [k0_pay1, tile, Layer.relu2, Layer.rms]

/-- The feed-forward block of the whole stream, row by row. -/
def G (x : FVec Ideal S16384x1024 .f32) (g : FVec Ideal S1x1024 .f32) (wu : FVec Ideal S1024x4096 .bf16)
    (wd : FVec Ideal S4096x1024 .bf16) (gf : FVec Ideal S1x1024 .f32) : FVec Ideal S16384x1024 .f32 :=
  fun i => Layer.rms (Layer.mlpRow (fun l => x (ix2 (i 0) l)) (fun l => g (ix2 0 l)) (fun k j => wu (ix2 k j)) (fun j c => wd (ix2 j c)))
    (fun l => gf (ix2 0 l)) (i 1)

/-- Which block each window takes at a grid point. -/
theorem idx_val : ∀ t : Fin cfg0.N, win0_0.index t = ![t.val, 0]
    ∧ win0_1.index t = ![0, 0]
    ∧ win0_2.index t = ![0, 0]
    ∧ win0_3.index t = ![0, 0]
    ∧ win0_4.index t = ![0, 0]
    ∧ win0_5.index t = ![t.val, 0] :=
  (by decide +kernel : ∀ t : Fin grid0.N, _)

/-- The result's block at a grid point: the eight groups are the sum over all 4096 hidden units. -/
theorem point (c : Dev nD) (t : Fin cfg0.N) (y) :
    k0_pay1 (k0_pay6 (iblk m c 0 t) (iblk m c 1 t) (iblk m c 2 t) (iblk m c 3 t) (iblk m c 4 t)) (k0_pay5 (k0_pay6
      (iblk m c 0 t) (iblk m c 1 t) (iblk m c 2 t) (iblk m c 3 t) (iblk m c 4 t)) (k0_pay3 (iblk m c 0 t) (iblk m c 1 t)
      (View.ld (iblk m c 2 t) r0_2) (View.ld (iblk m c 3 t) r0_3) (View.ld (iblk m c 2 t) r0_4) (View.ld (iblk m c 3 t)
      r0_5)) (k0_pay4 (iblk m c 0 t) (iblk m c 1 t) (View.ld (iblk m c 2 t) r0_6)) (View.ld (iblk m c 3 t) r0_7)
      (View.ld (iblk m c 2 t) r0_8) (View.ld (iblk m c 3 t) r0_9) (View.ld (iblk m c 2 t) r0_10) (View.ld (iblk m c 3 t)
      r0_11) (View.ld (iblk m c 2 t) r0_12) (View.ld (iblk m c 3 t) r0_13)) (View.ld (iblk m c 2 t) r0_14) (View.ld
      (iblk m c 3 t) r0_15) (View.ld (iblk m c 2 t) r0_16) (View.ld (iblk m c 3 t) r0_17) (iblk m c 4 t) y
      = G (m ((c : Thread nD τ).loc main_arg0)) (m ((c : Thread nD τ).loc main_arg1)) (m ((c : Thread nD τ).loc
        main_arg2)) (m ((c : Thread nD τ).loc main_arg3)) (m ((c : Thread nD τ).loc main_arg4)) (((cfg0.win 5).blk
        t).view.emb y) := by
  idx_vars y
  refine (pay1_at _ _ _ _ _ _ _ y0 y1).trans ?_
  have e6 : k0_pay6 (F := Ideal) (iblk m c 0 t) (iblk m c 1 t) (iblk m c 2 t) (iblk m c 3 t) (iblk m c 4 t)
    = k0_pay2 (F := Ideal) (iblk m c 0 t) (iblk m c 1 t) := by
    unfold k0_pay6 r0_0 r0_1
    rw [View.ld_unit_lit _ _ (by decide), View.ld_unit_lit _ _ (by decide)]
  rw [e6]
  unfold G Layer.mlpRow
  simp only [Layer.sum_hidden]
  simp only [pay5_at, pay3_at, tile, pay2_at]
  pointwise
  blk_point [iblk, V, idx_val t]

/-- The whole result after the last grid point. -/
theorem final (c : Dev nD) : (dats m 0 c).arrAt 5 (cfgs 0).N = G (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp; rw [after0_5]; frame_out
  exact point m c t y

end Cert.MlpIdeal.Value

end
-- ==== Proof.MlpRefValue.lean ====
/- Value of the feed-forward reference at an index. -/
module

public import proofs.«01_k».proof.Proof.Gen.MlpRefIdeal.Read
public import proofs.«01_k».proof.Proof.Spec
public import Idealize.ShloMosaic.Lib.Pointwise

@[expose] public section

set_option maxRecDepth 16384

noncomputable section

open Idealize.ShloMosaic Idealize.ShloMosaic.TcCoe Idealize.SL.Sem
open scoped BigOperators

namespace Cert.MlpRefIdeal.Read

open Cert.MlpRefIdeal Cert.MlpRefIdeal.Gen

/-- Before the final norm: the row plus its squared-ReLU feed-forward. -/
theorem mid_at (x : FVec Ideal S16384x1024 .f32) (g : FVec Ideal S1x1024 .f32) (wu : FVec Ideal S1024x4096 .bf16)
    (wd : FVec Ideal S4096x1024 .bf16) (r : Fin 16384) (c : Fin 1024) :
    val_main_v20 (F := Ideal) x g wu wd (ix2 r c)
      = Layer.mlpRow (fun l => x (ix2 r l)) (fun l => g (ix2 0 l)) (fun k j => wu (ix2 k j)) (fun j c => wd (ix2 j c)) c := by
  pointwise [val_main_v20, val_main_v19, val_main_v18, val_main_v17, val_main_call0_v0, val_main_call0_cst, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, Layer.mlpRow, Layer.relu2, Layer.rms]

/-- The reference at row `r`, column `c`: the final norm of that row. -/
theorem final_at (x : FVec Ideal S16384x1024 .f32) (g : FVec Ideal S1x1024 .f32) (wu : FVec Ideal S1024x4096 .bf16)
    (wd : FVec Ideal S4096x1024 .bf16) (gf : FVec Ideal S1x1024 .f32) (r : Fin 16384) (c : Fin 1024) :
    val_main_v34 (F := Ideal) x g wu wd gf (ix2 r c)
      = Layer.rms (Layer.mlpRow (fun l => x (ix2 r l)) (fun l => g (ix2 0 l)) (fun k j => wu (ix2 k j)) (fun j c => wd (ix2 j c)))
    (fun l => gf (ix2 0 l)) c := by
  pointwise [val_main_v34, val_main_v33, val_main_v32, val_main_v31, val_main_v30, val_main_v29, val_main_v28, val_main_v27, val_main_v26, val_main_v25, val_main_v24, val_main_v23, val_main_v22, val_main_v21, val_main_cst_2, val_main_cst_3, val_main_cst_4, mid_at, Layer.rms]

end Cert.MlpRefIdeal.Read

end
-- ==== Proof.KvValue.lean ====
/- Value of the key/value projection call at the ideal numbers: normalised memory rows times the weight matrix. -/
module

public import proofs.«01_k».proof.Proof.Gen.KvIdeal.Value
public import proofs.«01_k».proof.Proof.Spec
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.KvIdeal.Value

open Cert.KvIdeal Cert.KvIdeal.Gen

variable (m : (ℓ : Loc nD τ sig) → Buf (Elt Ideal) ℓ)

/-- The kernel's block at row `r`, column `j`: the normalised row times column `j` of the weights. -/
theorem pay5_at (x : Vec Ideal S1024x1024 .f32) (g : Vec Ideal S1x1024 .f32) (w : Vec Ideal S1024x2048 .bf16) (r : Fin 1024) (j : Fin 2048) :
    k0_pay5 x g w (ix2 r j) = ∑ k : Fin 1024, Layer.rms (fun l => x (ix2 r l)) (fun l => g (ix2 0 l)) k * w (ix2 k j) := by
  pointwise [k0_pay5, Layer.rms]

/-- The projection of the whole memory, row by row. -/
def G (x : FVec Ideal S2048x1024 .f32) (g : FVec Ideal S1x1024 .f32) (w : FVec Ideal S1024x2048 .f32) : FVec Ideal S2048x2048 .bf16 :=
  fun i => ∑ k : Fin 1024, Layer.rms (fun l => x (ix2 (i 0) l)) (fun l => g (ix2 0 l)) k * w (ix2 k (i 1))

/-- Which block each window takes at a grid point. -/
theorem idx_val : ∀ t : Fin cfg0.N, win0_0.index t = ![t.val, 0]
    ∧ win0_1.index t = ![0, 0]
    ∧ win0_2.index t = ![0, 0]
    ∧ win0_3.index t = ![t.val, 0] :=
  (by decide +kernel : ∀ t : Fin grid0.N, _)

/-- The result's block at the point that also fills the weight scratch. -/
theorem point_A (c : Dev nD) (t : Fin cfg0.N) (h0 : t.val % 2 = 0) (y) :
    (out0_A_3 c (grid0.coords t) (ms0_0 t) (hs0_0 t) (ms0_1 t) (hs0_1 t) (ms0_2 t) (hs0_2 t) (ms0_3 t) (hs0_3 t)
      scM0_0 (Memref.isWhole_whole _) ((hcond0_0 t).mpr h0) (iblk m c 0 t) (iblk m c 1 t) (iblk m c 2 t)) y
      = G (m ((c : Thread nD τ).loc main_arg0)) (m ((c : Thread nD τ).loc main_arg1)) (m ((c : Thread nD τ).loc
        main_arg2)) (((cfg0.win 3).blk t).view.emb y) := by
  frame_out
  idx_vars y
  refine (pay5_at _ _ _ y0 y1).trans ?_
  unfold G
  refine Finset.sum_congr rfl fun k _ => Ideal.mul_congr ?_ ?_
  · blk_point [iblk, V, idx_val t]
  · rw [Layer.readCov_all _ _ _ (by decide)]
    refine Eq.trans (b := (m ((c : Thread nD τ).loc main_arg2) : FVec Ideal S1024x2048 .f32) (ix2 k y1)) ?_ ?_
    · generalize (ix2 k y1 : S1024x2048.Idx) = y
      canon_tiles x h
      all_goals (open_payloads; pointwise; blk_point [iblk, V, idx_val t])
    · blk_point [iblk, V, idx_val t]

/-- That point fills the scratch with the whole weight matrix. -/
theorem sc_A (c : Dev nD) (t : Fin cfg0.N) (h0 : t.val % 2 = 0) (y) :
    (sout0_A_0 c (grid0.coords t) (ms0_0 t) (hs0_0 t) (ms0_1 t) (hs0_1 t) (ms0_2 t) (hs0_2 t) (ms0_3 t) (hs0_3 t)
      scM0_0 (Memref.isWhole_whole _) ((hcond0_0 t).mpr h0) (iblk m c 0 t) (iblk m c 1 t) (iblk m c 2 t)) y
      = (m ((c : Thread nD τ).loc main_arg2) : FVec Ideal S1024x2048 .f32) y := by
  frame_out
  canon_tiles x h
  all_goals (open_payloads; pointwise)
  all_goals blk_point [iblk, V, idx_val t]

/-- So the scratch holds the weights after it. -/
theorem scratch_A (c : Dev nD) (t : Fin cfg0.N) (h0 : t.val % 2 = 0) :
    (outsAt0 m c t.val t.isLt).2 = (m ((c : Thread nD τ).loc main_arg2) : FVec Ideal S1024x2048 .f32) := by
  rw [outsAt0_A m c t h0]
  dsimp only
  funext y
  exact sc_A m c t h0 y

/-- Any other point leaves the scratch as it found it. -/
theorem scratch_B (c : Dev nD) (t : Fin cfg0.N) (h0 : ¬t.val % 2 = 0) :
    (outsAt0 m c t.val t.isLt).2 = (outsAt0 m c (t.val - 1) (Nat.lt_of_le_of_lt (Nat.sub_le _ _) t.isLt)).2 := by
  rw [outsAt0_B m c t h0]
  dsimp only
  unfold sout0_B_0
  rfl

/-- The scratch holds the weights after every point. -/
theorem scratch_eq (c : Dev nD) : ∀ (n : ℕ) (hn : n < cfg0.N),
    (outsAt0 m c n hn).2 = (m ((c : Thread nD τ).loc main_arg2) : FVec Ideal S1024x2048 .f32)
  | 0, hn => scratch_A m c ⟨0, hn⟩ rfl
  | n + 1, hn => by
    by_cases h : (n + 1) % 2 = 0
    · exact scratch_A m c ⟨n + 1, hn⟩ h
    · exact (scratch_B m c ⟨n + 1, hn⟩ h).trans (scratch_eq c n _)

/-- The result's block at a point that reads the scratch filled earlier. -/
theorem point_B (c : Dev nD) (t : Fin cfg0.N) (h0 : ¬t.val % 2 = 0) (y) :
    (out0_B_3 c (grid0.coords t) (ms0_0 t) (hs0_0 t) (ms0_1 t) (hs0_1 t) (ms0_2 t) (hs0_2 t) (ms0_3 t) (hs0_3 t)
      scM0_0 (Memref.isWhole_whole _) (fun h => h0 ((hcond0_0 t).mp h)) (iblk m c 0 t) (iblk m c 1 t) (iblk m c 2 t)
      (outsAt0 m c (t.val - 1) (Nat.lt_of_le_of_lt (Nat.sub_le _ _) t.isLt)).2) y
      = G (m ((c : Thread nD τ).loc main_arg0)) (m ((c : Thread nD τ).loc main_arg1)) (m ((c : Thread nD τ).loc
        main_arg2)) (((cfg0.win 3).blk t).view.emb y) := by
  frame_out
  idx_vars y
  refine (pay5_at _ _ _ y0 y1).trans ?_
  unfold G
  refine Finset.sum_congr rfl fun k _ => Ideal.mul_congr ?_ ?_
  · blk_point [iblk, V, idx_val t]
  · refine (congrFun ((Memref.isWhole_whole cc0_scratch0).read_unread _) _).trans ?_
    rw [scratch_eq m c]
    blk_ext [V, idx_val t]

/-- The whole result after the last grid point. -/
theorem final (c : Dev nD) : (dats m 0 c).arrAt 3 (cfgs 0).N
    = G (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp; rw [after0_3]
  by_cases h : t.val % 2 = 0
  · rw [outsAt0_A m c t h]; dsimp only; exact point_A m c t h y
  · rw [outsAt0_B m c t h]; dsimp only; exact point_B m c t h y

end Cert.KvIdeal.Value

end
-- ==== Proof.KvRefValue.lean ====
/- Value of the key/value projection's reference at an index. -/
module

public import proofs.«01_k».proof.Proof.Gen.KvRefIdeal.Read
public import proofs.«01_k».proof.Proof.Spec
public import Idealize.ShloMosaic.Lib.Pointwise

@[expose] public section

set_option maxRecDepth 16384

noncomputable section

open Idealize.ShloMosaic Idealize.ShloMosaic.TcCoe Idealize.SL.Sem
open scoped BigOperators

namespace Cert.KvRefIdeal.Read

open Cert.KvRefIdeal Cert.KvRefIdeal.Gen

/-- The reference at row `r`, column `j`. -/
theorem final_at (x : FVec Ideal S2048x1024 .f32) (g : FVec Ideal S1x1024 .f32) (w : FVec Ideal S1024x2048 .f32) (r : Fin 2048) (j : Fin 2048) :
    val_main_v15 (F := Ideal) x g w (ix2 r j) = ∑ k : Fin 1024, Layer.rms (fun l => x (ix2 r l)) (fun l => g (ix2 0 l)) k * w (ix2 k j) := by
  pointwise [val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, Layer.rms]

end Cert.KvRefIdeal.Read

end
-- ==== Proof.PrepSpec.lean ====
/- The input projections' arithmetic one row at a time: plain functions on extended reals that the kernel and the
   reference are both shown to compute. -/
module

public import proofs.«01_k».proof.Proof.Spec

@[expose] public section

noncomputable section

open Idealize.ShloMosaic
open scoped BigOperators

namespace Layer

/-- One row's projection onto the 3872 input columns: the normalised row times the weights. -/
def proj (v g : Fin 1024 → EReal) (w : Fin 1024 → Fin 3872 → EReal) (j : Fin 3872) : EReal := ∑ k, rms v g k * w k j

/-- The token shift of one entry: a share `mu` of the way from the entry `p` to the row before's entry `q`. -/
def mix (p q mu : EReal) : EReal := p + (q - p) * mu

/-- `mix` of equal parts. -/
theorem mix_congr {p p' q q' mu mu' : EReal} (hp : p = p') (hq : q = q') (hm : mu = mu') :
    mix p q mu = mix p' q' mu' := by
  subst hp hq hm; rfl

/-- The entry of the row before inside a block of 512 rows; in front of the first row stands the carried entry. -/
def before (carry : EReal) (p : Fin 512 → EReal) (r : Fin 512) : EReal :=
  if r.val = 0 then carry else p ⟨r.val - 1, by omega⟩

/-- The logistic function. -/
def sig (a : EReal) : EReal := Ideal.logistic a

/-- It is one over one plus the exponential of the negated argument. -/
theorem sig_eq (a : EReal) : sig a = Ideal.div 1 (1 + Ideal.exp (-a)) := rfl

/-- In-context learning rate of column `i` from the shifted row's low-rank part. -/
def rate (a0 : Fin 512 → EReal) (lr : Fin 64 → EReal) (up : Fin 64 → Fin 512 → EReal) (i : Fin 512) : EReal :=
  sig (a0 i + ∑ e, lr e * up e i)

/-- The output gate of column `i` from the shifted row's low-rank part. -/
def gate (lr : Fin 160 → EReal) (up : Fin 160 → Fin 512 → EReal) (i : Fin 512) : EReal := ∑ e, sig (lr e) * up e i

/-- The key scaled by its learning rate. -/
def key (k a ka : EReal) : EReal := k * (Ideal.ofBits .f32 0x3F800000#32 + (a - Ideal.ofBits .f32 0x3F800000#32) * ka)

/-- The bonus of column `i`: the head's sum of products `s`, times the value. -/
def bonus (s v : Fin 512 → EReal) (i : Fin 512) : EReal :=
  (∑ d : Fin 64, s ⟨i.val / 64 * 64 + d.val, by omega⟩) * v i

/-- The swish of a number. -/
def swish (a : EReal) : EReal := a * sig a

/-- Token shift inside sequences of 2048 rows: column `2048 + j` of row `i`, moved towards the row before's; the first row
of a sequence is moved towards zero. -/
def shifted (p : Fin 16384 → Fin 3872 → EReal) (mu : Fin 1824 → EReal) (i : Fin 16384) (j : Fin 1824) : EReal :=
  mix (p i ⟨2048 + j.val, by omega⟩)
    (if i.val % 2048 = 0 then 0 else p ⟨i.val - 1, by omega⟩ ⟨2048 + j.val, by omega⟩) (mu j)

/-- The three streams of one row, from its projection `p` and its shifted part `s`: swish of the retention gate's columns,
the bonus, and the output gate. -/
def streams (p : Fin 3872 → EReal) (s : Fin 1824 → EReal) (a0 : Fin 512 → EReal) (aup : Fin 64 → Fin 512 → EReal)
    (gup : Fin 160 → Fin 512 → EReal) (ka rk : Fin 512 → EReal) (c : Fin 1536) : EReal :=
  if h : c.val < 512 then swish (p ⟨1536 + c.val, by omega⟩)
  else if h2 : c.val - 512 < 512 then
    bonus (fun j => s ⟨j.val, by omega⟩ * key (s ⟨512 + j.val, by omega⟩) (rate a0 (fun e => s ⟨1600 + e.val, by omega⟩) aup j)
        (ka j) * rk j)
      (fun j => s ⟨1024 + j.val, by omega⟩) ⟨c.val - 512, h2⟩
  else gate (fun e => s ⟨1664 + e.val, by omega⟩) gup ⟨c.val - 512 - 512, by omega⟩

/-- The streams of row `i` of all rows. -/
def allStreams (p : Fin 16384 → Fin 3872 → EReal) (mu : Fin 1824 → EReal) (a0 : Fin 512 → EReal)
    (aup : Fin 64 → Fin 512 → EReal) (gup : Fin 160 → Fin 512 → EReal) (ka rk : Fin 512 → EReal) (i : Fin 16384)
    (c : Fin 1536) : EReal :=
  streams (p i) (shifted p mu i) a0 aup gup ka rk c

/-- The token shift inside one block of 512 rows, in front of which the row `q` was carried. -/
def blockShifted (p : Fin 512 → Fin 3872 → EReal) (q : Fin 3872 → EReal) (mu : Fin 1824 → EReal) (r : Fin 512)
    (j : Fin 1824) : EReal :=
  mix (p r ⟨2048 + j.val, by omega⟩) (before (q ⟨2048 + j.val, by omega⟩) (fun r => p r ⟨2048 + j.val, by omega⟩) r) (mu j)

/-- A block's token shift is the rows' own if the carried row is the row before the block, or zero where a sequence
begins. -/
theorem blockShifted_eq (p : Fin 16384 → Fin 3872 → EReal) (q : Fin 3872 → EReal) (mu : Fin 1824 → EReal) (t : ℕ)
    (ht : t < 32) (hq : ∀ j, q j = if t % 4 = 0 then 0 else p ⟨t * 512 - 1, by omega⟩ j) (r : Fin 512) (j : Fin 1824) :
    blockShifted (fun r => p ⟨t * 512 + r.val, by omega⟩) q mu r j = shifted p mu ⟨t * 512 + r.val, by omega⟩ j := by
  refine mix_congr rfl ?_ rfl
  unfold before
  by_cases h : r.val = 0
  · rw [if_pos h, hq]
    by_cases h4 : t % 4 = 0
    · rw [if_pos h4, if_pos (by change (t * 512 + r.val) % 2048 = 0; omega)]
    · rw [if_neg h4, if_neg (by change ¬(t * 512 + r.val) % 2048 = 0; omega)]
      exact congrArg (fun i => p i _) (Fin.ext (by change t * 512 - 1 = t * 512 + r.val - 1; omega))
  · rw [if_neg h, if_neg (by change ¬(t * 512 + r.val) % 2048 = 0; omega)]
    exact congrArg (fun i => p i _) (Fin.ext (by change t * 512 + (r.val - 1) = t * 512 + r.val - 1; omega))

end Layer

end
-- ==== Proof.PrepPure.lean ====
/- The input-projection kernel's arithmetic on one block, entry by entry. -/
module

public import proofs.«01_k».proof.Proof.Gen.PrepIdeal.Skeleton
public import proofs.«01_k».proof.Proof.PrepSpec
public import Idealize.ShloMosaic.Lib.Pipeline.ValueKit

@[expose] public section

set_option maxRecDepth 16384

noncomputable section

open Idealize.ShloMosaic Idealize.ShloMosaic.TcCoe Idealize.SL.Sem
open scoped BigOperators

namespace Cert.PrepIdeal.Value

open Cert.PrepIdeal Cert.PrepIdeal.Gen

section
variable (x : FVec Ideal S512x1024 .f32) (g : FVec Ideal S1x1024 .f32) (w : FVec Ideal S1024x512 .bf16)
  (wl : FVec Ideal S1024x288 .bf16) (n : FVec Ideal S512x1024 .bf16)
  (p q s : FVec Ideal S512x512 .f32) (l : FVec Ideal S512x288 .f32) (c mu b : FVec Ideal S1x512 .f32) (cl ml : FVec Ideal S1x288 .f32)
  (up : FVec Ideal S64x512 .f32) (gup : FVec Ideal S160x512 .f32)

/-- The normalised row. -/
theorem norm_at (r : Fin 512) (k : Fin 1024) :
    k0_pay37 (F := Ideal) x g (ix2 r k) = Layer.rms (fun l => x (ix2 r l)) (fun l => g (ix2 0 l)) k := by
  pointwise [k0_pay37, Layer.rms]

/-- A slab of 512 projected columns. -/
theorem cols_at (r j : Fin 512) : k0_pay40 (F := Ideal) n w (ix2 r j) = ∑ k, n (ix2 r k) * w (ix2 k j) := by
  pointwise [k0_pay40]

/-- The low-rank projected columns. -/
theorem lora_at (r : Fin 512) (j : Fin 288) : k0_pay41 (F := Ideal) n wl (ix2 r j) = ∑ k, n (ix2 r k) * wl (ix2 k j) := by
  pointwise [k0_pay41]

/-- Choosing the carried entry in row 0 and the rotated block's entry elsewhere is taking the row before's entry. -/
theorem before_at (a : EReal) (f : Fin 512 → EReal) (r : Fin 512) :
    Scalar.select (IntOp.cmpi CmpIPredicate.eq (BitVec.ofNat 32 r.val) 0#32) a (f ⟨(r.val + 512 - 1) % 512, by omega⟩)
      = Layer.before a f r := by
  unfold Layer.before
  have hc : IntOp.cmpi CmpIPredicate.eq (BitVec.ofNat 32 r.val) 0#32 = if r.val = 0 then 1#1 else 0#1 := by
    revert r; decide +kernel
  rw [hc]
  split
  · rfl
  · refine congrArg f (Fin.ext ?_)
    simp only []
    omega

/-- The token shift of the first slab. -/
theorem shift_at (r j : Fin 512) :
    k0_pay83 (F := Ideal) p c mu (ix2 r j)
      = Layer.mix (p (ix2 r j)) (Layer.before (c (ix2 0 j)) (fun r => p (ix2 r j)) r) (mu (ix2 0 j)) := by
  rw [← before_at]
  pointwise [k0_pay83, Layer.mix]

/-- The token shift of the low-rank slab. -/
theorem shift_lora_at (r : Fin 512) (j : Fin 288) :
    k0_pay85 (F := Ideal) l cl ml (ix2 r j)
      = Layer.mix (l (ix2 r j)) (Layer.before (cl (ix2 0 j)) (fun r => l (ix2 r j)) r) (ml (ix2 0 j)) := by
  rw [← before_at]
  pointwise [k0_pay85, Layer.mix]

/-- The token shift of the key slab. -/
theorem shift_key_at (r j : Fin 512) :
    k0_pay93 (F := Ideal) p (k0_pay90 p c) mu (ix2 r j)
      = Layer.mix (p (ix2 r j)) (Layer.before (c (ix2 0 j)) (fun r => p (ix2 r j)) r) (mu (ix2 0 j)) := by
  rw [← before_at]
  pointwise [k0_pay93, k0_pay90, Layer.mix]

/-- The token shift of the value slab. -/
theorem shift_val_at (r j : Fin 512) :
    k0_pay106 (F := Ideal) p (iota .tc S512x512 32 [0] iota_S512x512_d0_w32) 0#32 c mu (ix2 r j)
      = Layer.mix (p (ix2 r j)) (Layer.before (c (ix2 0 j)) (fun r => p (ix2 r j)) r) (mu (ix2 0 j)) := by
  rw [← before_at]
  pointwise [k0_pay106, Layer.mix]

/-- The learning rate. -/
theorem rate_at (r j : Fin 512) :
    k0_pay88 (F := Ideal) l b up (ix2 r j)
      = Layer.rate (fun i => b (ix2 0 i)) (fun e => l (ix2 r ⟨64 + e.val, by omega⟩)) (fun e i => up (ix2 e i)) j := by
  pointwise [k0_pay88, Layer.rate, Layer.sig]

/-- The output gate. -/
theorem gate_at (r j : Fin 512) :
    k0_pay89 (F := Ideal) l gup (ix2 r j)
      = Layer.gate (fun e => l (ix2 r ⟨128 + e.val, by omega⟩)) (fun e i => gup (ix2 e i)) j := by
  pointwise [k0_pay89, Layer.gate, Layer.sig]

/-- The scaled key. -/
theorem key_at (r j : Fin 512) :
    k0_pay95 (F := Ideal) p q (k0_pay90 p c) mu b (ix2 r j)
      = Layer.key (Layer.mix (p (ix2 r j)) (Layer.before (c (ix2 0 j)) (fun r => p (ix2 r j)) r) (mu (ix2 0 j)))
          (q (ix2 r j)) (b (ix2 0 j)) := by
  rw [← shift_key_at]
  pointwise [k0_pay95, Layer.key]

/-- The swish. -/
theorem swish_at (r j : Fin 512) : k0_pay3 (F := Ideal) p (ix2 r j) = Layer.swish (p (ix2 r j)) := by
  pointwise [k0_pay3, Layer.swish, Layer.sig]

/-- The products the heads sum. -/
theorem prod_at (r j : Fin 512) : k0_pay107 (F := Ideal) p q b (ix2 r j) = p (ix2 r j) * q (ix2 r j) * b (ix2 0 j) := by
  pointwise [k0_pay107]

/-- The last row of a slab, carried on. -/
theorem last_at (j : Fin 512) : k0_pay82 (F := Ideal) p (ix2 0 j) = p (ix2 ⟨511, by omega⟩ j) := by
  pointwise [k0_pay82]

/-- Of 128 lanes with the upper half put to zero, the sum is the lower half's. -/
theorem lower_sum (f : Fin 128 → EReal) :
    (∑ e : Fin 128, Scalar.select (IntOp.cmpi CmpIPredicate.slt (BitVec.ofNat 32 e.val) 64#32) (f e) 0)
      = ∑ d : Fin 64, f ⟨d.val, by omega⟩ := by
  have hc : ∀ e : Fin 128, IntOp.cmpi CmpIPredicate.slt (BitVec.ofNat 32 e.val) 64#32 = if e.val < 64 then 1#1 else 0#1 := by
    decide +kernel
  have h2 : ∀ e : Fin 128, Scalar.select (IntOp.cmpi CmpIPredicate.slt (BitVec.ofNat 32 e.val) 64#32) (f e) 0
      = if e.val < 64 then f e else 0 := fun e => by rw [hc e]; split <;> rfl
  rw [Finset.sum_congr rfl fun e _ => h2 e, Fin.sum_univ_tiles 2 64 rfl, Fin.sum_univ_two]
  simp [Fin.val_add]

/-- Of 128 lanes with the lower half put to zero, the sum is the upper half's. -/
theorem upper_sum (f : Fin 128 → EReal) :
    (∑ e : Fin 128, Scalar.select (IntOp.cmpi CmpIPredicate.slt (BitVec.ofNat 32 e.val) 64#32) 0 (f e))
      = ∑ d : Fin 64, f ⟨64 + d.val, by omega⟩ := by
  have hc : ∀ e : Fin 128, IntOp.cmpi CmpIPredicate.slt (BitVec.ofNat 32 e.val) 64#32 = if e.val < 64 then 1#1 else 0#1 := by
    decide +kernel
  have h2 : ∀ e : Fin 128, Scalar.select (IntOp.cmpi CmpIPredicate.slt (BitVec.ofNat 32 e.val) 64#32) 0 (f e)
      = if e.val < 64 then 0 else f e := fun e => by rw [hc e]; split <;> rfl
  rw [Finset.sum_congr rfl fun e _ => h2 e, Fin.sum_univ_tiles 2 64 rfl, Fin.sum_univ_two]
  simp [Fin.val_add]

/-- The two half sums of the 128 columns from column `o` on, the lower one taken in the lower half: column `j` has its own
head's sum. -/
theorem half_sums (f : Fin 512 → EReal) (o : ℕ) (ho : o + 128 ≤ 512) (hd : o % 64 = 0) (j : Fin 512) (n : ℕ)
    (hn : o + n = j.val) (h128 : n < 128) :
    Scalar.select (IntOp.cmpi CmpIPredicate.slt (BitVec.ofNat 32 n) 64#32)
        (∑ e : Fin 128, Scalar.select (IntOp.cmpi CmpIPredicate.slt (BitVec.ofNat 32 e.val) 64#32) (f ⟨o + e.val, by omega⟩) 0)
        (∑ e : Fin 128, Scalar.select (IntOp.cmpi CmpIPredicate.slt (BitVec.ofNat 32 e.val) 64#32) 0 (f ⟨o + e.val, by omega⟩))
      = ∑ d : Fin 64, f ⟨j.val / 64 * 64 + d.val, by omega⟩ := by
  have hc : IntOp.cmpi CmpIPredicate.slt (BitVec.ofNat 32 n) 64#32 = if n < 64 then 1#1 else 0#1 :=
    (by decide +kernel : ∀ n : Fin 128, IntOp.cmpi CmpIPredicate.slt (BitVec.ofNat 32 n.val) 64#32
      = if n.val < 64 then 1#1 else 0#1) ⟨n, h128⟩
  rw [lower_sum, upper_sum, hc]
  by_cases h : n < 64
  · rw [if_pos h]
    refine Eq.trans (b := ∑ d : Fin 64, f ⟨o + d.val, by omega⟩) rfl ?_
    exact Finset.sum_congr rfl fun (d : Fin 64) _ => congrArg f (Fin.ext (by
      change o + d.val = j.val / 64 * 64 + d.val; omega))
  · rw [if_neg h]
    refine Eq.trans (b := ∑ d : Fin 64, f ⟨o + (64 + d.val), by omega⟩) rfl ?_
    exact Finset.sum_congr rfl fun (d : Fin 64) _ => congrArg f (Fin.ext (by
      change o + (64 + d.val) = j.val / 64 * 64 + d.val; omega))

/-- Head sums of the first 128 columns. -/
theorem heads_at (r : Fin 512) (j : Fin 128) :
    k0_pay109 (F := Ideal) p q b (ix2 r j)
      = ∑ d : Fin 64, k0_pay107 (F := Ideal) p q b (ix2 r ⟨j.val / 64 * 64 + d.val, by omega⟩) := by
  refine Eq.trans ?_ (half_sums (fun i => k0_pay107 (F := Ideal) p q b (ix2 r i)) 0 (by omega) (by omega) ⟨j.val, by omega⟩ j.val (Nat.zero_add _) j.isLt)
  pointwise [k0_pay109, k0_pay108]

/-- The bonus: each head's sum of products times the value. -/
theorem bonus_at (r : Fin 512) (j : Fin 512) :
    k0_pay112 (F := Ideal) s (k0_pay107 p q b) k0_pay108 (k0_pay109 p q b) (k0_pay110 p q b) (k0_pay111 p q b) (ix2 r j)
      = Layer.bonus (fun i => p (ix2 r i) * q (ix2 r i) * b (ix2 0 i)) (fun i => s (ix2 r i)) j := by
  have hp : ∀ i, p (ix2 r i) * q (ix2 r i) * b (ix2 0 i) = k0_pay107 (F := Ideal) p q b (ix2 r i) :=
    fun i => (prod_at p q b r i).symm
  simp only [hp]
  clear hp
  pointwise [k0_pay112, k0_pay110, k0_pay111, k0_pay108, heads_at, Layer.bonus]
  refine congrArg (fun a : EReal => a * s (ix2 r j)) ?_
  by_cases h0 : j.val < 128
  · rw [dif_pos h0]
  rw [dif_neg h0]
  by_cases h1 : j.val - 128 < 128
  · rw [dif_pos h1]
    exact half_sums (fun i => k0_pay107 (F := Ideal) p q b (ix2 r i)) 128 (by omega) (by omega) j _ (by omega) h1
  rw [dif_neg h1]
  by_cases h2 : j.val - 128 - 128 < 128
  · rw [dif_pos h2]
    exact half_sums (fun i => k0_pay107 (F := Ideal) p q b (ix2 r i)) 256 (by omega) (by omega) j _ (by omega) h2
  rw [dif_neg h2]
  exact half_sums (fun i => k0_pay107 (F := Ideal) p q b (ix2 r i)) 384 (by omega) (by omega) j _ (by omega) (by omega)

end

section
variable {x : FVec Ideal S512x1024 .f32} {g : FVec Ideal S1x1024 .f32} {wg wr wk wv : FVec Ideal S1024x512 .bf16}
  {wl : FVec Ideal S1024x288 .bf16} {cr ck cv mr mk mv a0 ka rk : FVec Ideal S1x512 .f32} {cl ml : FVec Ideal S1x288 .f32}
  {aup : FVec Ideal S64x512 .f32} {gup : FVec Ideal S160x512 .f32}
  {w : Fin 1024 → Fin 3872 → EReal} {q : Fin 3872 → EReal} {mu : Fin 1824 → EReal}

/-- The projected rows of a block. -/
abbrev blockRow (x : FVec Ideal S512x1024 .f32) (g : FVec Ideal S1x1024 .f32) (w : Fin 1024 → Fin 3872 → EReal) (r : Fin 512) :
    Fin 3872 → EReal :=
  Layer.proj (fun l => x (ix2 r l)) (fun l => g (ix2 0 l)) w

/-- A slab of 512 columns from column `o` on is the projection there. -/
theorem slab_at (o : ℕ) (ho : o + 512 ≤ 3872) {ws : FVec Ideal S1024x512 .bf16}
    (h : ∀ k j, ws (ix2 k j) = w k ⟨o + j.val, by omega⟩) (r j : Fin 512) :
    k0_pay40 (F := Ideal) (k0_pay37 x g) ws (ix2 r j) = blockRow x g w r ⟨o + j.val, by omega⟩ := by
  rw [cols_at]
  exact Finset.sum_congr rfl fun k _ => Ideal.mul_congr (norm_at x g r k) (h k j)

/-- The first 512 shifted columns, read off the first slab. -/
theorem slab_shift_at (hw : ∀ k j, wr (ix2 k j) = w k ⟨2048 + j.val, by omega⟩)
    (hc : ∀ j, cr (ix2 0 j) = q ⟨2048 + j.val, by omega⟩) (hm : ∀ j, mr (ix2 0 j) = mu ⟨j.val, by omega⟩) (r j : Fin 512) :
    k0_pay83 (F := Ideal) (k0_pay40 (k0_pay37 x g) wr) cr mr (ix2 r j)
      = Layer.blockShifted (blockRow x g w) q mu r ⟨j.val, by omega⟩ := by
  rw [shift_at]
  exact Layer.mix_congr (slab_at 2048 (by omega) hw r j)
    ((congrArg₂ (fun a f => Layer.before a f r) (hc j) (funext fun r => slab_at 2048 (by omega) hw r j))) (hm j)

/-- The shifted low-rank columns. -/
theorem lora_shift_at (hw : ∀ k j, wl (ix2 k j) = w k ⟨3584 + j.val, by omega⟩)
    (hc : ∀ j, cl (ix2 0 j) = q ⟨3584 + j.val, by omega⟩) (hm : ∀ j, ml (ix2 0 j) = mu ⟨1536 + j.val, by omega⟩)
    (r : Fin 512) (j : Fin 288) :
    k0_pay85 (F := Ideal) (k0_pay41 (k0_pay37 x g) wl) cl ml (ix2 r j)
      = Layer.blockShifted (blockRow x g w) q mu r ⟨1536 + j.val, by omega⟩ := by
  have hp : ∀ r, k0_pay41 (F := Ideal) (k0_pay37 x g) wl (ix2 r j) = blockRow x g w r ⟨2048 + (1536 + j.val), by omega⟩ := fun r => by
    rw [lora_at]
    exact Finset.sum_congr rfl fun k _ => Ideal.mul_congr (norm_at x g r k) ((hw k j).trans
      (congrArg (w k) (Fin.ext (by change 3584 + j.val = 2048 + (1536 + j.val); omega))))
  rw [shift_lora_at]
  refine Layer.mix_congr (hp r) (congrArg₂ (fun a f => Layer.before a f r) ((hc j).trans ?_) (funext fun r => hp r)) (hm j)
  exact congrArg q (Fin.ext (by change 3584 + j.val = 2048 + (1536 + j.val); omega))

/-- The shifted value columns. -/
theorem val_shift_at (hw : ∀ k j, wv (ix2 k j) = w k ⟨3072 + j.val, by omega⟩)
    (hc : ∀ j, cv (ix2 0 j) = q ⟨3072 + j.val, by omega⟩) (hm : ∀ j, mv (ix2 0 j) = mu ⟨1024 + j.val, by omega⟩) (r j : Fin 512) :
    k0_pay106 (F := Ideal) (k0_pay43 (k0_pay37 x g) wv) (iota .tc S512x512 32 [0] iota_S512x512_d0_w32) 0#32 cv mv (ix2 r j)
      = Layer.blockShifted (blockRow x g w) q mu r ⟨1024 + j.val, by omega⟩ := by
  have he : ∀ j : Fin 512, 3072 + j.val = 2048 + (1024 + j.val) := fun j => by omega
  have hp : ∀ r, k0_pay43 (F := Ideal) (k0_pay37 x g) wv (ix2 r j) = blockRow x g w r ⟨2048 + (1024 + j.val), by omega⟩ :=
    fun r => (slab_at 3072 (by omega) hw r j).trans (congrArg (blockRow x g w r) (Fin.ext (he j)))
  rw [shift_val_at]
  exact Layer.mix_congr (hp r) (congrArg₂ (fun a f => Layer.before a f r) ((hc j).trans (congrArg q (Fin.ext (he j))))
    (funext fun r => hp r)) (hm j)

/-- The shifted key columns, scaled by their learning rate. -/
theorem key_shift_at (hw : ∀ k j, wk (ix2 k j) = w k ⟨2560 + j.val, by omega⟩)
    (hc : ∀ j, ck (ix2 0 j) = q ⟨2560 + j.val, by omega⟩) (hm : ∀ j, mk (ix2 0 j) = mu ⟨512 + j.val, by omega⟩)
    (hwl : ∀ k j, wl (ix2 k j) = w k ⟨3584 + j.val, by omega⟩)
    (hcl : ∀ j, cl (ix2 0 j) = q ⟨3584 + j.val, by omega⟩) (hml : ∀ j, ml (ix2 0 j) = mu ⟨1536 + j.val, by omega⟩) (r j : Fin 512) :
    k0_pay95 (F := Ideal) (k0_pay42 (k0_pay37 x g) wk) (k0_pay88 (k0_pay85 (k0_pay41 (k0_pay37 x g) wl) cl ml) a0 aup)
        (k0_pay90 (k0_pay42 (k0_pay37 x g) wk) ck) mk ka (ix2 r j)
      = Layer.key (Layer.blockShifted (blockRow x g w) q mu r ⟨512 + j.val, by omega⟩)
          (Layer.rate (fun i => a0 (ix2 0 i)) (fun e => Layer.blockShifted (blockRow x g w) q mu r ⟨1600 + e.val, by omega⟩)
            (fun e i => aup (ix2 e i)) j) (ka (ix2 0 j)) := by
  have he : ∀ j : Fin 512, 2560 + j.val = 2048 + (512 + j.val) := fun j => by omega
  have hp : ∀ r, k0_pay42 (F := Ideal) (k0_pay37 x g) wk (ix2 r j) = blockRow x g w r ⟨2048 + (512 + j.val), by omega⟩ :=
    fun r => (slab_at 2560 (by omega) hw r j).trans (congrArg (blockRow x g w r) (Fin.ext (he j)))
  rw [key_at]
  refine congrArg₂ (fun a b => Layer.key a b _) ?_ ?_
  · exact Layer.mix_congr (hp r) (congrArg₂ (fun a f => Layer.before a f r) ((hc j).trans (congrArg q (Fin.ext (he j))))
      (funext fun r => hp r)) (hm j)
  · rw [rate_at]
    refine congrArg (fun f => Layer.rate _ f _ j) (funext fun e => (lora_shift_at hwl hcl hml r _).trans ?_)
    exact congrArg (Layer.blockShifted _ q mu r) (Fin.ext (by change 1536 + (64 + e.val) = 1600 + e.val; omega))

/-- The first stream of a block. -/
theorem tile0_at (hw : ∀ k j, wg (ix2 k j) = w k ⟨1536 + j.val, by omega⟩) (s : Fin 1824 → EReal) (a0 : Fin 512 → EReal)
    (aup : Fin 64 → Fin 512 → EReal) (gup : Fin 160 → Fin 512 → EReal) (ka rk : Fin 512 → EReal) (r j : Fin 512) :
    k0_pay3 (F := Ideal) (k0_pay115 (k0_pay37 x g) wg) (ix2 r j)
      = Layer.streams (blockRow x g w r) s a0 aup gup ka rk ⟨j.val, by omega⟩ := by
  rw [swish_at, Layer.streams, dif_pos (show j.val < 512 from j.isLt)]
  exact congrArg Layer.swish (slab_at 1536 (by omega) hw r j)

/-- The second stream of a block. -/
theorem tile1_at (hwr : ∀ k j, wr (ix2 k j) = w k ⟨2048 + j.val, by omega⟩)
    (hcr : ∀ j, cr (ix2 0 j) = q ⟨2048 + j.val, by omega⟩) (hmr : ∀ j, mr (ix2 0 j) = mu ⟨j.val, by omega⟩)
    (hwk : ∀ k j, wk (ix2 k j) = w k ⟨2560 + j.val, by omega⟩)
    (hck : ∀ j, ck (ix2 0 j) = q ⟨2560 + j.val, by omega⟩) (hmk : ∀ j, mk (ix2 0 j) = mu ⟨512 + j.val, by omega⟩)
    (hwv : ∀ k j, wv (ix2 k j) = w k ⟨3072 + j.val, by omega⟩)
    (hcv : ∀ j, cv (ix2 0 j) = q ⟨3072 + j.val, by omega⟩) (hmv : ∀ j, mv (ix2 0 j) = mu ⟨1024 + j.val, by omega⟩)
    (hwl : ∀ k j, wl (ix2 k j) = w k ⟨3584 + j.val, by omega⟩)
    (hcl : ∀ j, cl (ix2 0 j) = q ⟨3584 + j.val, by omega⟩) (hml : ∀ j, ml (ix2 0 j) = mu ⟨1536 + j.val, by omega⟩)
    (gup : Fin 160 → Fin 512 → EReal) (r j : Fin 512) (p k2 : FVec Ideal S512x512 .f32)
    (hp : p = k0_pay83 (k0_pay40 (k0_pay37 x g) wr) cr mr)
    (hk : k2 = k0_pay95 (k0_pay42 (k0_pay37 x g) wk) (k0_pay88 (k0_pay85 (k0_pay41 (k0_pay37 x g) wl) cl ml) a0 aup)
        (k0_pay90 (k0_pay42 (k0_pay37 x g) wk) ck) mk ka) :
    k0_pay112 (F := Ideal) (k0_pay106 (k0_pay43 (k0_pay37 x g) wv) (iota .tc S512x512 32 [0] iota_S512x512_d0_w32) 0#32 cv mv)
        (k0_pay107 p k2 rk) k0_pay108 (k0_pay109 p k2 rk) (k0_pay110 p k2 rk) (k0_pay111 p k2 rk) (ix2 r j)
      = Layer.streams (blockRow x g w r) (Layer.blockShifted (blockRow x g w) q mu r) (fun i => a0 (ix2 0 i))
          (fun e i => aup (ix2 e i)) gup (fun i => ka (ix2 0 i)) (fun i => rk (ix2 0 i)) ⟨512 + j.val, by omega⟩ := by
  subst hp hk
  have hj : ∀ h, (⟨512 + j.val - 512, h⟩ : Fin 512) = j := fun _ => Fin.ext (by change 512 + j.val - 512 = j.val; omega)
  rw [bonus_at, Layer.streams, dif_neg (show ¬512 + j.val < 512 by omega), dif_pos (show 512 + j.val - 512 < 512 by omega), hj]
  refine congrArg₂ (fun s v => Layer.bonus s v j) (funext fun i => ?_) (funext fun i => val_shift_at hwv hcv hmv r i)
  exact Ideal.mul_congr (Ideal.mul_congr (slab_shift_at hwr hcr hmr r i) (key_shift_at hwk hck hmk hwl hcl hml r i)) rfl

/-- The third stream of a block. -/
theorem tile2_at (hwl : ∀ k j, wl (ix2 k j) = w k ⟨3584 + j.val, by omega⟩)
    (hcl : ∀ j, cl (ix2 0 j) = q ⟨3584 + j.val, by omega⟩) (hml : ∀ j, ml (ix2 0 j) = mu ⟨1536 + j.val, by omega⟩)
    (p : Fin 3872 → EReal) (a0 : Fin 512 → EReal) (aup : Fin 64 → Fin 512 → EReal) (ka rk : Fin 512 → EReal) (r j : Fin 512) :
    k0_pay89 (F := Ideal) (k0_pay85 (k0_pay41 (k0_pay37 x g) wl) cl ml) gup (ix2 r j)
      = Layer.streams p (Layer.blockShifted (blockRow x g w) q mu r) a0 aup (fun e i => gup (ix2 e i)) ka rk
          ⟨1024 + j.val, by omega⟩ := by
  have hj : ∀ h, (⟨1024 + j.val - 512 - 512, h⟩ : Fin 512) = j :=
    fun _ => Fin.ext (by change 1024 + j.val - 512 - 512 = j.val; omega)
  rw [gate_at, Layer.streams, dif_neg (show ¬1024 + j.val < 512 by omega),
    dif_neg (show ¬1024 + j.val - 512 < 512 by omega), hj]
  refine congrArg (fun f => Layer.gate f _ j) (funext fun e => (lora_shift_at hwl hcl hml r _).trans ?_)
  exact congrArg (Layer.blockShifted _ q mu r) (Fin.ext (by change 1536 + (128 + e.val) = 1664 + e.val; omega))

end

end Cert.PrepIdeal.Value

end
-- ==== Proof.PrepScratch.lean ====
/- Value of the input-projection call at the ideal numbers: blocks, the weight scratch and the streams asked for. -/
module

public import proofs.«01_k».proof.Proof.Gen.PrepIdeal.Value
public import proofs.«01_k».proof.Proof.PrepSpec
public import proofs.«01_k».proof.Proof.PrepPure
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.PrepIdeal.Value

open Cert.PrepIdeal Cert.PrepIdeal.Gen

variable (m : (ℓ : Loc nD τ sig) → Buf (Elt Ideal) ℓ)

/-- Which block each window takes at a grid point: a block of 512 rows of the streams, everything of the tables. -/
theorem idx_val : ∀ t : Fin cfg0.N, win0_0.index t = ![t.val, 0]
    ∧ win0_1.index t = ![t.val, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![0, 0]
    ∧ win0_13.index t = ![0, 0]
    ∧ win0_14.index t = ![0, 0]
    ∧ win0_15.index t = ![0, 0]
    ∧ win0_16.index t = ![0, 0]
    ∧ win0_17.index t = ![0, 0]
    ∧ win0_18.index t = ![t.val, 0]
    ∧ win0_19.index t = ![t.val, 0]
    ∧ win0_20.index t = ![t.val, 0] :=
  (by decide +kernel : ∀ t : Fin grid0.N, _)

/-- The projected rows, by row number. -/
abbrev projRow (x : FVec Ideal S16384x1024 .f32) (g : FVec Ideal S1x1024 .f32) (w : FVec Ideal S1024x3872 .f32)
    (i : Fin 16384) (j : Fin 3872) : EReal :=
  Layer.proj (fun l => x (ix2 i l)) (fun l => g (ix2 0 l)) (fun k j => w (ix2 k j)) j

/-- The three streams, for every row of the whole array. -/
def allRows (x : FVec Ideal S16384x1024 .f32) (g : FVec Ideal S1x1024 .f32) (w : FVec Ideal S1024x3872 .f32)
    (mu : FVec Ideal S1x1824 .f32) (a0 : FVec Ideal S1x512 .f32) (aup : FVec Ideal S64x512 .f32)
    (gup : FVec Ideal S160x512 .f32) (ka rk : FVec Ideal S1x512 .f32) : FVec Ideal S16384x1536 .f32 :=
  fun i => Layer.allStreams (projRow x g w) (fun j => mu (ix2 0 j)) (fun i => a0 (ix2 0 i)) (fun e i => aup (ix2 e i))
    (fun e i => gup (ix2 e i)) (fun i => ka (ix2 0 i)) (fun i => rk (ix2 0 i)) (i 0) (i 1)

/-- All rows' projections. -/
abbrev rows (c : Dev nD) : Fin 16384 → Fin 3872 → EReal :=
  projRow (m ((c : Thread nD τ).loc main_arg0)) (m ((c : Thread nD τ).loc main_arg2)) (m ((c : Thread nD τ).loc main_arg3))

/-- The weights by row and column. -/
abbrev cols (c : Dev nD) (k : Fin 1024) (j : Fin 3872) : EReal :=
  ((m ((c : Thread nD τ).loc main_arg3)) : FVec Ideal S1024x3872 .f32) (ix2 k j)

/-- The mixing shares by column. -/
abbrev share (c : Dev nD) (j : Fin 1824) : EReal :=
  ((m ((c : Thread nD τ).loc main_arg6)) : FVec Ideal S1x1824 .f32) (ix2 0 j)

/-- There are 32 grid points. -/
theorem point_lt (t : Fin cfg0.N) : t.val < 32 := t.isLt

/-- The row in front of a point's block: zero where a sequence begins. -/
def front (c : Dev nD) (t : Fin cfg0.N) (j : Fin 3872) : EReal :=
  if t.val % 4 = 0 then 0 else rows m c ⟨t.val * 512 - 1, by have := point_lt t; omega⟩ j

/-- A block's rows are the rows of the whole array. -/
theorem rows_at (c : Dev nD) (t : Fin cfg0.N) (r : Fin 512) :
    blockRow (iblk m c 0 t) (iblk m c 2 t) (cols m c) r
      = rows m c ⟨t.val * 512 + r.val, by have := point_lt t; omega⟩ := by
  funext j
  refine Finset.sum_congr rfl fun k _ => Ideal.mul_congr ?_ rfl
  refine congrArg₂ (fun a b => Layer.rms a b k) (funext fun l => ?_) (funext fun l => ?_)
  · blk_point [iblk, V, idx_val t]
  · blk_point [iblk, V, idx_val t]

/-- The streams of a block's row are those of the row in the whole array. -/
theorem streams_of (c : Dev nD) (t : Fin cfg0.N) (r : Fin 512) (k : Fin 1536) :
    Layer.streams (blockRow (iblk m c 0 t) (iblk m c 2 t) (cols m c) r)
        (Layer.blockShifted (blockRow (iblk m c 0 t) (iblk m c 2 t) (cols m c)) (front m c t) (share m c) r)
        (fun i => (iblk m c 11 t : FVec Ideal S1x512 .f32) (ix2 0 i)) (fun e i => (iblk m c 12 t : FVec Ideal S64x512 .f32) (ix2 e i))
        (fun e i => (iblk m c 13 t : FVec Ideal S160x512 .f32) (ix2 e i)) (fun i => (iblk m c 15 t : FVec Ideal S1x512 .f32) (ix2 0 i))
        (fun i => (iblk m c 16 t : FVec Ideal S1x512 .f32) (ix2 0 i)) k
      = allRows (m ((c : Thread nD τ).loc main_arg0)) (m ((c : Thread nD τ).loc main_arg2)) (m ((c : Thread nD τ).loc
        main_arg3)) (m ((c : Thread nD τ).loc main_arg6)) (m ((c : Thread nD τ).loc main_arg9)) (m ((c : Thread nD τ).loc
        main_arg10)) (m ((c : Thread nD τ).loc main_arg11)) (m ((c : Thread nD τ).loc main_arg13)) (m ((c : Thread nD
        τ).loc main_arg14)) (ix2 ⟨t.val * 512 + r.val, by have := point_lt t; omega⟩ k) := by
  have hr : (blockRow (iblk m c 0 t) (iblk m c 2 t) (cols m c)) = fun r => rows m c ⟨t.val * 512 + r.val, by have := point_lt t; omega⟩ :=
    funext fun r => rows_at m c t r
  have hs : Layer.blockShifted (blockRow (iblk m c 0 t) (iblk m c 2 t) (cols m c)) (front m c t) (share m c) r
      = Layer.shifted (rows m c) (share m c) ⟨t.val * 512 + r.val, by have := point_lt t; omega⟩ := by
    rw [hr]
    exact funext fun j => Layer.blockShifted_eq (rows m c) (front m c t) (share m c) t.val (point_lt t) (fun _ => rfl) r j
  have h11 : (fun i => (iblk m c 11 t : FVec Ideal S1x512 .f32) (ix2 0 i)) = fun i : Fin 512 => ((m ((c : Thread nD τ).loc main_arg9)) : FVec Ideal S1x512 .f32) (ix2 0 i) := by
    funext i; blk_point [iblk, V, idx_val t]
  have h12 : (fun e i => (iblk m c 12 t : FVec Ideal S64x512 .f32) (ix2 e i)) = fun (e : Fin 64) (i : Fin 512) => ((m ((c : Thread nD τ).loc main_arg10)) : FVec Ideal S64x512 .f32) (ix2 e i) := by
    funext e i; blk_point [iblk, V, idx_val t]
  have h13 : (fun e i => (iblk m c 13 t : FVec Ideal S160x512 .f32) (ix2 e i)) = fun (e : Fin 160) (i : Fin 512) => ((m ((c : Thread nD τ).loc main_arg11)) : FVec Ideal S160x512 .f32) (ix2 e i) := by
    funext e i; blk_point [iblk, V, idx_val t]
  have h15 : (fun i => (iblk m c 15 t : FVec Ideal S1x512 .f32) (ix2 0 i)) = fun i : Fin 512 => ((m ((c : Thread nD τ).loc main_arg13)) : FVec Ideal S1x512 .f32) (ix2 0 i) := by
    funext i; blk_point [iblk, V, idx_val t]
  have h16 : (fun i => (iblk m c 16 t : FVec Ideal S1x512 .f32) (ix2 0 i)) = fun i : Fin 512 => ((m ((c : Thread nD τ).loc main_arg14)) : FVec Ideal S1x512 .f32) (ix2 0 i) := by
    funext i; blk_point [iblk, V, idx_val t]
  rw [hs, rows_at, h11, h12, h13, h15, h16]
  rfl

/-- A read through a rectangle of the weights takes the columns from `o` on. -/
theorem col_idx (W : FVec Ideal S1024x3872 .f32) (o n : ℕ) (h : ∀ a, (![0, o] : Fin 2 → ℕ) a + (![1024, n] : Fin 2 → ℕ) a ≤ S1024x3872.size a)
    (k : Fin 1024) (j : Fin n) (hj : o + j.val < 3872) :
    W ((Rect.unit (s := S1024x3872) ![0, o] ![1024, n] h).idx (ix2 k j)) = W (ix2 k ⟨o + j.val, hj⟩) := by
  refine congrArg W (funext fun a => Fin.ext ((Rect.idx_unit_val _ _ h _ a).trans ?_))
  match a with
  | 0 => exact Nat.zero_add _
  | 1 => rfl

/-- A read through a rectangle of one row of 1536 entries takes those from `o` on. -/
theorem row_idx (W : FVec Ideal S1x1536 .f32) (o : ℕ) (h : ∀ a, (![0, o] : Fin 2 → ℕ) a + (![1, 512] : Fin 2 → ℕ) a ≤ S1x1536.size a)
    (j : Fin 512) (hj : o + j.val < 1536) :
    W ((Rect.unit (s := S1x1536) ![0, o] ![1, 512] h).idx (ix2 0 j)) = W (ix2 0 ⟨o + j.val, hj⟩) := by
  refine congrArg W (funext fun a => Fin.ext ((Rect.idx_unit_val _ _ h _ a).trans ?_))
  match a with
  | 0 => rfl
  | 1 => rfl

/-- The first 1536 mixing shares. -/
theorem share_at (c : Dev nD) (t : Fin cfg0.N) (j : Fin 1536) :
    (iblk m c 7 t : FVec Ideal S1x1536 .f32) (ix2 0 j) = share m c ⟨j.val, by omega⟩ := by
  blk_point [iblk, V, idx_val t]

/-- The last 288 mixing shares. -/
theorem share_lora_at (c : Dev nD) (t : Fin cfg0.N) (j : Fin 288) :
    (iblk m c 8 t : FVec Ideal S1x288 .f32) (ix2 0 j) = share m c ⟨1536 + j.val, by omega⟩ := by
  blk_point [iblk, V, idx_val t]

/-- The call's weight operand is the transposed weight matrix. -/
theorem weight_at (c : Dev nD) (t : Fin cfg0.N) (j : Fin 3872) (k : Fin 1024) :
    (iblk m c 3 t : FVec Ideal S3872x1024 .f32) (ix2 j k) = cols m c k j := by
  blk_point [iblk, V, idx_val t]

/-- Where an entry of the result's block lies in the whole result. -/
theorem emb_19 (t : Fin cfg0.N) (r : Fin 512) (k : Fin 1536) :
    (((cfg0.win 19).blk t).view.emb (ix2 r k)) = ix2 ⟨t.val * 512 + r.val, by have := point_lt t; omega⟩ k := by
  funext a
  match a with
  | 0 => refine Fin.ext ?_; blk_simp [idx_val t]
  | 1 => refine Fin.ext ?_; blk_simp [idx_val t]

/-! ### The weight scratch -/

/-- The slab of 128 rows of the transposed weights, transposed back into columns from `o` on. -/
def slab (A : FVec Ideal S3872x1024 .f32) (o : ℕ)
    (h : ∀ a, (![0, o] : Fin 2 → ℕ) a + (![1024, 128] : Fin 2 → ℕ) a ≤ S1024x3872.size a)
    (h' : ∀ a, (![o, 0] : Fin 2 → ℕ) a + (![128, 1024] : Fin 2 → ℕ) a ≤ S3872x1024.size a) :
    View.Piece (Elt Ideal) S1024x3872 .bf16 :=
  ⟨Rect.unit ![0, o] ![1024, 128] h, k0_pay4 (View.ld (Val := Elt Ideal) (S := S3872x1024) (e' := .f32) A (Rect.unit ![o, 0] ![128, 1024] h'))⟩

/-- The last slab has 32 rows. -/
def lastSlab (A : FVec Ideal S3872x1024 .f32) : View.Piece (Elt Ideal) S1024x3872 .bf16 :=
  ⟨Rect.unit ![0, 3840] ![1024, 32] inb_S1024x3872_S1024x32_0_3840,
    k0_pay34 (View.ld (Val := Elt Ideal) (S := S3872x1024) (e' := .f32) A (Rect.unit ![3840, 0] ![32, 1024] inb_S3872x1024_S32x1024_3840_0))⟩

/-- The transposed weights by column and row. -/
abbrev turned (A : FVec Ideal S3872x1024 .f32) : FVec Ideal S1024x3872 .bf16 := fun y => A (ix2 (y 1) (y 0))

/-- A slab holds the weights of its columns. -/
theorem slab_eq (A : FVec Ideal S3872x1024 .f32) (o : ℕ) (h) (h') (x : (slab A o h h').1.shape.Idx) :
    (slab A o h h').2 x = turned A ((slab A o h h').1.emb x) := by
  have e : ∀ X : FVec Ideal S128x1024 .f32, ∀ x : S1024x128.Idx, k0_pay4 (F := Ideal) X x = X (ix2 (x 1) (x 0)) := fun X x => by
    idx_vars x; pointwise [k0_pay4]
  refine (e _ x).trans (congrArg A (funext fun a => Fin.ext ((Rect.idx_unit_val _ _ h' _ a).trans ?_)))
  match a with
  | 0 => exact (Rect.idx_unit_val _ _ h x 1).symm
  | 1 => exact (Rect.idx_unit_val _ _ h x 0).symm

/-- So does the last one. -/
theorem lastSlab_eq (A : FVec Ideal S3872x1024 .f32) (x : (lastSlab A).1.shape.Idx) :
    (lastSlab A).2 x = turned A ((lastSlab A).1.emb x) := by
  have e : ∀ X : FVec Ideal S32x1024 .f32, ∀ x : S1024x32.Idx, k0_pay34 (F := Ideal) X x = X (ix2 (x 1) (x 0)) := fun X x => by
    idx_vars x; pointwise [k0_pay34]
  refine (e _ x).trans (congrArg A (funext fun a => Fin.ext ((Rect.idx_unit_val _ _ inb_S3872x1024_S32x1024_3840_0 _ a).trans ?_)))
  match a with
  | 0 => exact (Rect.idx_unit_val _ _ inb_S1024x3872_S1024x32_0_3840 x 1).symm
  | 1 => exact (Rect.idx_unit_val _ _ inb_S1024x3872_S1024x32_0_3840 x 0).symm

/-- The 31 slabs the first grid point stores, the last one first. -/
def slabs (A : FVec Ideal S3872x1024 .f32) : List (View.Piece (Elt Ideal) S1024x3872 .bf16) :=
  [lastSlab A, slab A 3712 inb_S1024x3872_S1024x128_0_3712 inb_S3872x1024_S128x1024_3712_0,
    slab A 3584 inb_S1024x3872_S1024x128_0_3584 inb_S3872x1024_S128x1024_3584_0,
    slab A 3456 inb_S1024x3872_S1024x128_0_3456 inb_S3872x1024_S128x1024_3456_0,
    slab A 3328 inb_S1024x3872_S1024x128_0_3328 inb_S3872x1024_S128x1024_3328_0,
    slab A 3200 inb_S1024x3872_S1024x128_0_3200 inb_S3872x1024_S128x1024_3200_0,
    slab A 3072 inb_S1024x3872_S1024x128_0_3072 inb_S3872x1024_S128x1024_3072_0,
    slab A 2944 inb_S1024x3872_S1024x128_0_2944 inb_S3872x1024_S128x1024_2944_0,
    slab A 2816 inb_S1024x3872_S1024x128_0_2816 inb_S3872x1024_S128x1024_2816_0,
    slab A 2688 inb_S1024x3872_S1024x128_0_2688 inb_S3872x1024_S128x1024_2688_0,
    slab A 2560 inb_S1024x3872_S1024x128_0_2560 inb_S3872x1024_S128x1024_2560_0,
    slab A 2432 inb_S1024x3872_S1024x128_0_2432 inb_S3872x1024_S128x1024_2432_0,
    slab A 2304 inb_S1024x3872_S1024x128_0_2304 inb_S3872x1024_S128x1024_2304_0,
    slab A 2176 inb_S1024x3872_S1024x128_0_2176 inb_S3872x1024_S128x1024_2176_0,
    slab A 2048 inb_S1024x3872_S1024x128_0_2048 inb_S3872x1024_S128x1024_2048_0,
    slab A 1920 inb_S1024x3872_S1024x128_0_1920 inb_S3872x1024_S128x1024_1920_0,
    slab A 1792 inb_S1024x3872_S1024x128_0_1792 inb_S3872x1024_S128x1024_1792_0,
    slab A 1664 inb_S1024x3872_S1024x128_0_1664 inb_S3872x1024_S128x1024_1664_0,
    slab A 1536 inb_S1024x3872_S1024x128_0_1536 inb_S3872x1024_S128x1024_1536_0,
    slab A 1408 inb_S1024x3872_S1024x128_0_1408 inb_S3872x1024_S128x1024_1408_0,
    slab A 1280 inb_S1024x3872_S1024x128_0_1280 inb_S3872x1024_S128x1024_1280_0,
    slab A 1152 inb_S1024x3872_S1024x128_0_1152 inb_S3872x1024_S128x1024_1152_0,
    slab A 1024 inb_S1024x3872_S1024x128_0_1024 inb_S3872x1024_S128x1024_1024_0,
    slab A 896 inb_S1024x3872_S1024x128_0_896 inb_S3872x1024_S128x1024_896_0,
    slab A 768 inb_S1024x3872_S1024x128_0_768 inb_S3872x1024_S128x1024_768_0,
    slab A 640 inb_S1024x3872_S1024x128_0_640 inb_S3872x1024_S128x1024_640_0,
    slab A 512 inb_S1024x3872_S1024x128_0_512 inb_S3872x1024_S128x1024_512_0,
    slab A 384 inb_S1024x3872_S1024x128_0_384 inb_S3872x1024_S128x1024_384_0,
    slab A 256 inb_S1024x3872_S1024x128_0_256 inb_S3872x1024_S128x1024_256_0,
    slab A 128 inb_S1024x3872_S1024x128_0_128 inb_S3872x1024_S128x1024_128_0,
    slab A 0 inb_S1024x3872_S1024x128_0_0 inb_S3872x1024_S128x1024_0_0]

/-- Read back, they are the weights. -/
theorem canon_slabs (A : FVec Ideal S3872x1024 .f32) (y : S1024x3872.Idx) : View.canon (slabs A) y = turned A y := by
  refine View.canon_apply_of_pieces (turned A) (slabs A) ?_ y (View.cover_of_tiledBy (slabs A) ![1024, 32] (by sl_kernel_rfl) y)
  simp only [slabs, List.forall_mem_cons]
  refine ⟨lastSlab_eq A, ?_⟩
  repeat' first | exact slab_eq A _ _ _ | refine And.intro ?_ ?_
  exact fun p hp => absurd hp List.not_mem_nil

/-- The weights, as the scratch holds them. -/
abbrev held (c : Dev nD) : FVec Ideal S1024x3872 .bf16 := ((m ((c : Thread nD τ).loc main_arg3)) : FVec Ideal S1024x3872 .f32)

/-- The slabs read back at a point. -/
theorem slabs_held (c : Dev nD) (t : Fin cfg0.N) (y) : View.canon (slabs (iblk m c 3 t)) y = held m c y :=
  (canon_slabs _ y).trans ((weight_at m c t (y 1) (y 0)).trans (congrArg (held m c) (by idx_vars y)))

/-- The first grid point fills the scratch with the weights. -/
theorem fill_0 (c : Dev nD) (t : Fin cfg0.N) (h0 : t.val % 32 = 0) (h1 : t.val % 4 = 0) (y) : (sout0_A_0 c
    (grid0.coords t) (ms0_0 t) (hs0_0 t) (ms0_1 t) (hs0_1 t) (ms0_2 t) (hs0_2 t) (ms0_3 t) (hs0_3 t) (ms0_4 t) (hs0_4
    t) (ms0_5 t) (hs0_5 t) (ms0_6 t) (hs0_6 t) (ms0_7 t) (hs0_7 t) (ms0_8 t) (hs0_8 t) (ms0_9 t) (hs0_9 t) (ms0_10 t)
    (hs0_10 t) (ms0_11 t) (hs0_11 t) (ms0_12 t) (hs0_12 t) (ms0_13 t) (hs0_13 t) (ms0_14 t) (hs0_14 t) (ms0_15 t)
    (hs0_15 t) (ms0_16 t) (hs0_16 t) (ms0_17 t) (hs0_17 t) (ms0_18 t) (hs0_18 t) (ms0_19 t) (hs0_19 t) (ms0_20 t)
    (hs0_20 t) scM0_0 (Memref.isWhole_whole _) scM0_1 (Memref.isWhole_whole _) scM0_2 (Memref.isWhole_whole _)
    ((hcond0_0 t).mpr h0) ((hcond0_1 t).mpr h1) (iblk m c 0 t) (iblk m c 1 t) (iblk m c 2 t) (iblk m c 3 t) (iblk m c
    4 t) (iblk m c 5 t) (iblk m c 6 t) (iblk m c 7 t) (iblk m c 8 t) (iblk m c 9 t) (iblk m c 10 t) (iblk m c 11 t)
    (iblk m c 12 t) (iblk m c 13 t) (iblk m c 14 t) (iblk m c 15 t) (iblk m c 16 t) (iblk m c 17 t)) y = held m c y :=
    by
  frame_out
  exact slabs_held m c t y

/-- The scratch holds the weights. -/
abbrev Filled (c : Dev nD) (n : ℕ) (hn : n < cfg0.N) : Prop := (outsAt0 m c n hn).2.2.2.1 = held m c

/-- It does after the first grid point. -/
theorem filled_A (c : Dev nD) (t : Fin cfg0.N) (h0 : t.val % 32 = 0) (h1 : t.val % 4 = 0) : Filled m c t.val t.isLt := by
  unfold Filled
  rw [outsAt0_A m c t h0 h1]
  dsimp only
  exact funext fun y => fill_0 m c t h0 h1 y

/-- Every later point leaves it as it found it. -/
theorem filled_BC (c : Dev nD) (t : Fin cfg0.N) (h0 : ¬t.val % 32 = 0)
    (h : Filled m c (t.val - 1) (Nat.lt_of_le_of_lt (Nat.sub_le _ _) t.isLt)) : Filled m c t.val t.isLt := by
  unfold Filled at h ⊢
  by_cases h1 : t.val % 4 = 0
  · rw [outsAt0_C m c t h0 h1]
    dsimp only
    unfold sout0_C_0
    exact h
  · rw [outsAt0_B m c t h0 h1]
    dsimp only
    unfold sout0_B_0
    exact h

/-- So it holds them after every point. -/
theorem filled (c : Dev nD) : ∀ (n : ℕ) (hn : n < cfg0.N), Filled m c n hn
  | 0, hn => filled_A m c ⟨0, hn⟩ rfl rfl
  | n + 1, hn => by
    by_cases h : (n + 1) % 32 = 0
    · exact filled_A m c ⟨n + 1, hn⟩ h (by change (n + 1) % 4 = 0; omega)
    · exact filled_BC m c ⟨n + 1, hn⟩ h (filled c n _)

end Cert.PrepIdeal.Value

end
-- ==== Proof.PrepCarry.lean ====
/- Value of the input-projection call at the ideal numbers: one point's pieces and the carried rows. -/
module

public import proofs.«01_k».proof.Proof.Gen.PrepIdeal.Value
public import proofs.«01_k».proof.Proof.PrepScratch
public import Idealize.ShloMosaic.Lib.Pipeline.CanonAppend
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.PrepIdeal.Value

open Cert.PrepIdeal Cert.PrepIdeal.Gen

variable (m : (ℓ : Loc nD τ sig) → Buf (Elt Ideal) ℓ)

/-! ### One point's pieces, whatever its loads are called -/

section

variable {m} {c : Dev nD} {t : Fin cfg0.N} {wg wr wk wv : FVec Ideal S1024x512 .bf16} {wl : FVec Ideal S1024x288 .bf16}
  {cr ck cv mr mk mv : FVec Ideal S1x512 .f32} {cl : FVec Ideal S1x288 .f32}

/-- The result's block: each of its three pieces is a stream of the block's rows, if the loaded weights are the weights'
columns, the loaded carried rows the row in front, and the loaded shares the shares. -/
theorem out_19 (hwg : ∀ k j, wg (ix2 k j) = cols m c k ⟨1536 + j.val, by omega⟩)
    (hwr : ∀ k j, wr (ix2 k j) = cols m c k ⟨2048 + j.val, by omega⟩)
    (hwk : ∀ k j, wk (ix2 k j) = cols m c k ⟨2560 + j.val, by omega⟩)
    (hwv : ∀ k j, wv (ix2 k j) = cols m c k ⟨3072 + j.val, by omega⟩)
    (hwl : ∀ k j, wl (ix2 k j) = cols m c k ⟨3584 + j.val, by omega⟩)
    (hcr : ∀ j, cr (ix2 0 j) = front m c t ⟨2048 + j.val, by omega⟩)
    (hck : ∀ j, ck (ix2 0 j) = front m c t ⟨2560 + j.val, by omega⟩)
    (hcv : ∀ j, cv (ix2 0 j) = front m c t ⟨3072 + j.val, by omega⟩)
    (hcl : ∀ j, cl (ix2 0 j) = front m c t ⟨3584 + j.val, by omega⟩)
    (hmr : ∀ j, mr (ix2 0 j) = share m c ⟨j.val, by omega⟩)
    (hmk : ∀ j, mk (ix2 0 j) = share m c ⟨512 + j.val, by omega⟩)
    (hmv : ∀ j, mv (ix2 0 j) = share m c ⟨1024 + j.val, by omega⟩)
    (p k2 : FVec Ideal S512x512 .f32) (hp : p = k0_pay83 (k0_pay40 (k0_pay37 (iblk m c 0 t) (iblk m c 2 t)) wr) cr mr)
    (hk : k2 = k0_pay95 (k0_pay42 (k0_pay37 (iblk m c 0 t) (iblk m c 2 t)) wk) (k0_pay88 (k0_pay85 (k0_pay41 (k0_pay37 (iblk m c 0 t) (iblk m c 2 t)) wl) cl (iblk m c 8 t)) (iblk m c 11 t) (iblk m c 12 t))
        (k0_pay90 (k0_pay42 (k0_pay37 (iblk m c 0 t) (iblk m c 2 t)) wk) ck) mk (iblk m c 15 t)) (i0 i1 i2) (y : S512x1536.Idx) :
    View.canon (Val := Elt Ideal) (s := S512x1536) (e := .f32)
      [⟨Rect.unit ![0, 0] ![512, 512] i0, k0_pay3 (k0_pay115 (k0_pay37 (iblk m c 0 t) (iblk m c 2 t)) wg)⟩,
        ⟨Rect.unit ![0, 512] ![512, 512] i1,
          k0_pay112 (k0_pay106 (k0_pay43 (k0_pay37 (iblk m c 0 t) (iblk m c 2 t)) wv) (iota .tc S512x512 32 [0] iota_S512x512_d0_w32) 0#32 cv mv)
            (k0_pay107 p k2 (iblk m c 16 t)) k0_pay108 (k0_pay109 p k2 (iblk m c 16 t)) (k0_pay110 p k2 (iblk m c 16 t)) (k0_pay111 p k2 (iblk m c 16 t))⟩,
        ⟨Rect.unit ![0, 1024] ![512, 512] i2, k0_pay89 (k0_pay85 (k0_pay41 (k0_pay37 (iblk m c 0 t) (iblk m c 2 t)) wl) cl (iblk m c 8 t)) (iblk m c 13 t)⟩] y
      = allRows (m ((c : Thread nD τ).loc main_arg0)) (m ((c : Thread nD τ).loc main_arg2)) (m ((c : Thread nD τ).loc
        main_arg3)) (m ((c : Thread nD τ).loc main_arg6)) (m ((c : Thread nD τ).loc main_arg9)) (m ((c : Thread nD τ).loc
        main_arg10)) (m ((c : Thread nD τ).loc main_arg11)) (m ((c : Thread nD τ).loc main_arg13)) (m ((c : Thread nD
        τ).loc main_arg14))
        (((cfg0.win 19).blk t).view.emb y) := by
  have hs : ∀ (r : Fin 512) (k : Fin 1536) (y : S512x1536.Idx), (y 0).val = r.val → (y 1).val = k.val →
      y = ix2 r k := fun r k y h0 h1 => funext fun a => Fin.ext (by match a with | 0 => exact h0 | 1 => exact h1)
  canon_tiles x h using (View.cover_of_tiledL _ ![512, 512] (by sl_kernel_rfl) y)
  · rw [hs ⟨(x 0).val, x0_lt⟩ ⟨(x 1).val, by omega⟩ y h0 h1, emb_19]
    obtain ⟨r, j, rfl⟩ : ∃ (r : Fin 512) (j : Fin 512), x = ix2 r j := ⟨x 0, x 1, by idx_vars x⟩
    exact (tile0_at hwg _ _ _ _ _ _ r j).trans (streams_of m c t r ⟨j.val, by omega⟩)
  · rw [hs ⟨(x 0).val, x0_lt⟩ ⟨512 + (x 1).val, by omega⟩ y h0 h1, emb_19]
    obtain ⟨r, j, rfl⟩ : ∃ (r : Fin 512) (j : Fin 512), x = ix2 r j := ⟨x 0, x 1, by idx_vars x⟩
    exact (tile1_at hwr hcr hmr hwk hck hmk hwv hcv hmv hwl hcl (share_lora_at m c t) _ r j p k2 hp hk).trans
      (streams_of m c t r ⟨512 + j.val, by omega⟩)
  · rw [hs ⟨(x 0).val, x0_lt⟩ ⟨1024 + (x 1).val, by omega⟩ y h0 h1, emb_19]
    obtain ⟨r, j, rfl⟩ : ∃ (r : Fin 512) (j : Fin 512), x = ix2 r j := ⟨x 0, x 1, by idx_vars x⟩
    exact (tile2_at hwl hcl (share_lora_at m c t) _ _ _ _ _ r j).trans (streams_of m c t r ⟨1024 + j.val, by omega⟩)

/-- The last row of a point's block, which it carries on. -/
def last (m : (ℓ : Loc nD τ sig) → Buf (Elt Ideal) ℓ) (c : Dev nD) (t : Fin cfg0.N) : Fin 3872 → EReal :=
  rows m c ⟨t.val * 512 + 511, by have := point_lt t; omega⟩

/-- The carried row of the first three slabs. -/
def carried (m : (ℓ : Loc nD τ sig) → Buf (Elt Ideal) ℓ) (c : Dev nD) (t : Fin cfg0.N) : FVec Ideal S1x1536 .f32 :=
  fun y => last m c t ⟨2048 + (y 1).val, by have : (y 1).val < 1536 := (y 1).isLt; omega⟩

/-- The carried row of the low-rank columns. -/
def carriedLora (m : (ℓ : Loc nD τ sig) → Buf (Elt Ideal) ℓ) (c : Dev nD) (t : Fin cfg0.N) : FVec Ideal S1x288 .f32 :=
  fun y => last m c t ⟨3584 + (y 1).val, by have : (y 1).val < 288 := (y 1).isLt; omega⟩

/-- A piece of the carried row: the last row of a slab. -/
theorem piece_carried (o : ℕ) (ho : o + 512 ≤ 1536) {w : FVec Ideal S1024x512 .bf16}
    (hw : ∀ k j, w (ix2 k j) = cols m c k ⟨2048 + o + j.val, by omega⟩)
    (h : ∀ a, (![0, o] : Fin 2 → ℕ) a + (![1, 512] : Fin 2 → ℕ) a ≤ S1x1536.size a) (x : S1x512.Idx) :
    k0_pay82 (F := Ideal) (k0_pay40 (k0_pay37 (iblk m c 0 t) (iblk m c 2 t)) w) x = carried m c t ((Rect.unit (s := S1x1536) ![0, o] ![1, 512] h).emb x) := by
  obtain ⟨j, rfl⟩ : ∃ j : Fin 512, x = ix2 0 j := ⟨x 1, by idx_vars x; obtain rfl : x0 = 0 := Subsingleton.elim _ _; rfl⟩
  refine (last_at _ j).trans ((slab_at (2048 + o) (by omega) hw ⟨511, by omega⟩ j).trans ?_)
  rw [rows_at]
  exact congrArg (last m c t) (Fin.ext ((Nat.add_assoc _ _ _).trans
    (congrArg (fun i : ℕ => 2048 + i) (Rect.idx_unit_val (s := S1x1536) ![0, o] ![1, 512] h (ix2 0 j) 1).symm)))

/-- The carried row after a point: its three stored pieces cover it, whatever was stored before. -/
theorem canon_carried (hwr : ∀ k j, wr (ix2 k j) = cols m c k ⟨2048 + j.val, by omega⟩)
    (hwk : ∀ k j, wk (ix2 k j) = cols m c k ⟨2560 + j.val, by omega⟩)
    (hwv : ∀ k j, wv (ix2 k j) = cols m c k ⟨3072 + j.val, by omega⟩) (i2 i1 i0)
    (L : List (View.Piece (Elt Ideal) S1x1536 .f32)) (y : S1x1536.Idx) :
    View.canon (Val := Elt Ideal) (s := S1x1536) (e := .f32)
      (⟨Rect.unit ![0, 1024] ![1, 512] i2, k0_pay105 (k0_pay43 (k0_pay37 (iblk m c 0 t) (iblk m c 2 t)) wv)⟩
        :: ⟨Rect.unit ![0, 512] ![1, 512] i1, k0_pay92 (k0_pay91 (k0_pay42 (k0_pay37 (iblk m c 0 t) (iblk m c 2 t)) wk))⟩
        :: ⟨Rect.unit ![0, 0] ![1, 512] i0, k0_pay82 (k0_pay40 (k0_pay37 (iblk m c 0 t) (iblk m c 2 t)) wr)⟩ :: L) y = carried m c t y := by
  refine View.canon_append_of_pieces (carried m c t) L [⟨Rect.unit ![0, 1024] ![1, 512] i2, k0_pay105 (k0_pay43 (k0_pay37 (iblk m c 0 t) (iblk m c 2 t)) wv)⟩,
    ⟨Rect.unit ![0, 512] ![1, 512] i1, k0_pay92 (k0_pay91 (k0_pay42 (k0_pay37 (iblk m c 0 t) (iblk m c 2 t)) wk))⟩,
    ⟨Rect.unit ![0, 0] ![1, 512] i0, k0_pay82 (k0_pay40 (k0_pay37 (iblk m c 0 t) (iblk m c 2 t)) wr)⟩] ?_ y (View.cover_of_tiledL _ ![1, 512] (by sl_kernel_rfl) y)
  simp only [List.forall_mem_cons]
  refine ⟨fun x => piece_carried 1024 (by omega) hwv i2 x, fun x => piece_carried 512 (by omega) hwk i1 x,
    fun x => piece_carried 0 (by omega) (fun k j => (hwr k j).trans ?_) i0 x, fun p hp => absurd hp List.not_mem_nil⟩
  rfl

/-- The carried low-rank row after a point. -/
theorem lora_carried (hwl : ∀ k j, wl (ix2 k j) = cols m c k ⟨3584 + j.val, by omega⟩) (x : S1x288.Idx) :
    k0_pay84 (F := Ideal) (k0_pay41 (k0_pay37 (iblk m c 0 t) (iblk m c 2 t)) wl) x = carriedLora m c t x := by
  obtain ⟨j, rfl⟩ : ∃ j : Fin 288, x = ix2 0 j := ⟨x 1, by idx_vars x; obtain rfl : x0 = 0 := Subsingleton.elim _ _; rfl⟩
  have e : ∀ p : FVec Ideal S512x288 .f32, k0_pay84 (F := Ideal) p (ix2 0 j) = p (ix2 ⟨511, by omega⟩ j) := fun p => by
    pointwise [k0_pay84]
  refine (e _).trans ((lora_at _ _ _ j).trans ?_)
  refine (Finset.sum_congr rfl fun k _ => Ideal.mul_congr (norm_at _ _ _ k) (hwl k j)).trans ?_
  exact congrFun (rows_at m c t ⟨511, by omega⟩) _

end

/-- A read of what a list of stores left, at an index. -/
theorem readCov_idx {Val : EltTy → Type} [∀ e, Nonempty (Val e)] {S : Shape} {e : EltTy} {sig : RefSig} {κ : Kind}
    {sp : Space} (v : View sig κ sp S e) (L : List (View.Piece Val S e)) (r : Rect S) (x : r.shape.Idx) :
    v.readCov L r.toLoadRect x = View.canon L (r.idx x) :=
  congrFun (View.readCov_eq_canon' v L r.toLoadRect) x

/-- A store elsewhere does not matter. -/
theorem canon_skip {Val : EltTy → Type} [∀ e, Nonempty (Val e)] {S : Shape} {e : EltTy} {off size : Fin S.rank → ℕ}
    (inb : ∀ a, off a + size a ≤ S.size a) (w : (Rect.unit off size inb).shape.Idx → Val e)
    (L : List (View.Piece Val S e)) (y : S.Idx) (a : Fin S.rank) (h : off a + size a ≤ (y a).val) :
    View.canon ((⟨Rect.unit off size inb, w⟩ : View.Piece Val S e) :: L) y = View.canon L y := by
  refine View.canon_cons_of_not_mem _ _ fun hm => ?_
  obtain ⟨x, rfl⟩ := (Rect.unit off size inb).exists_idx_of_mem hm
  have h1 := Rect.idx_unit_val off size inb x a
  have h2 : (x a).val < size a := (x a).isLt
  omega

/-- The carried row put to zero. -/
theorem canon_zero (i) (y : S1x1536.Idx) :
    View.canon (Val := Elt Ideal) (s := S1x1536) (e := .f32) [⟨Rect.unit ![0, 0] ![1, 1536] i, k0_pay35 (F := Ideal)⟩] y = 0 := by
  refine (congrFun (View.canon_unit_zero (Val := Elt Ideal) (S := S1x1536) (e := .f32) (View.eq_zero_of_forall (by decide)) i (k0_pay35 (F := Ideal))) y).trans ?_
  pointwise [k0_pay35]

/-- Where a sequence begins the row in front is zero. -/
theorem front_zero (c : Dev nD) (t : Fin cfg0.N) (h1 : t.val % 4 = 0) (j : Fin 3872) : front m c t j = 0 := if_pos h1

/-- Elsewhere it is the row the point before carried on. -/
theorem front_last (c : Dev nD) (t : Fin cfg0.N) (h1 : ¬t.val % 4 = 0) (j : Fin 3872) :
    front m c t j = last m c ⟨t.val - 1, Nat.lt_of_le_of_lt (Nat.sub_le _ _) t.isLt⟩ j :=
  (if_neg h1).trans (congrArg (fun i => rows m c i j) (Fin.ext (by
    change t.val * 512 - 1 = (t.val - 1) * 512 + 511; have := point_lt t; omega)))

/-- The scratch, as a later point reads it, holds the weights. -/
theorem held_read (c : Dev nD) (t : Fin cfg0.N) :
    View.read (Elt Ideal) (View.whole cc0_scratch0) ((Memref.isWhole_whole cc0_scratch0).unread
      (outsAt0 m c (t.val - 1) (Nat.lt_of_le_of_lt (Nat.sub_le _ _) t.isLt)).2.2.2.1) = held m c :=
  ((Memref.isWhole_whole cc0_scratch0).read_unread _).trans (filled m c _ _)

/-- Columns from `o` on, as the filling point reads them. -/
theorem cols_A (c : Dev nD) (t : Fin cfg0.N) (o n : ℕ) (h) (k : Fin 1024) (j : Fin n) (hj : o + j.val < 3872) :
    (View.whole (κ := .tc) cc0_scratch0).readCov (slabs (iblk m c 3 t)) (Rect.unit (s := S1024x3872) ![0, o] ![1024, n] h).toLoadRect
      (ix2 k j) = cols m c k ⟨o + j.val, hj⟩ :=
  (readCov_idx _ _ _ _).trans ((slabs_held m c t _).trans (col_idx (held m c) o n h k j hj))

/-- Columns from `o` on, as any later point reads them. -/
theorem cols_BC (c : Dev nD) (t : Fin cfg0.N) (o n : ℕ) (h) (k : Fin 1024) (j : Fin n) (hj : o + j.val < 3872) :
    View.read (Elt Ideal) (View.whole cc0_scratch0) ((Memref.isWhole_whole cc0_scratch0).unread
      (outsAt0 m c (t.val - 1) (Nat.lt_of_le_of_lt (Nat.sub_le _ _) t.isLt)).2.2.2.1)
      ((Rect.unit (s := S1024x3872) ![0, o] ![1024, n] h).idx (ix2 k j)) = cols m c k ⟨o + j.val, hj⟩ :=
  (congrFun (held_read m c t) _).trans (col_idx (held m c) o n h k j hj)

/-- Mixing shares from `o` on. -/
theorem share_ld (c : Dev nD) (t : Fin cfg0.N) (o : ℕ) (ho : o + 512 ≤ 1536) (h) (j : Fin 512) :
    (iblk m c 7 t : FVec Ideal S1x1536 .f32) ((Rect.unit (s := S1x1536) ![0, o] ![1, 512] h).idx (ix2 0 j))
      = share m c ⟨o + j.val, by omega⟩ :=
  (row_idx (iblk m c 7 t) o h j (by omega)).trans (share_at m c t ⟨o + j.val, by omega⟩)

/-- The first 512 of them. -/
theorem share_ld0 (c : Dev nD) (t : Fin cfg0.N) (h) (j : Fin 512) :
    (iblk m c 7 t : FVec Ideal S1x1536 .f32) ((Rect.unit (s := S1x1536) ![0, 0] ![1, 512] h).idx (ix2 0 j))
      = share m c ⟨j.val, by omega⟩ :=
  (share_ld m c t 0 (by omega) h j).trans (congrArg (share m c) (Fin.ext (Nat.zero_add _)))

/-- The zeroed carried row behind one store in front of it. -/
theorem zero_k (w : FVec Ideal S1x512 .f32) (i i' h) (j : Fin 512) :
    View.canon (Val := Elt Ideal) (s := S1x1536) (e := .f32)
      [⟨Rect.unit ![0, 0] ![1, 512] i, w⟩, ⟨Rect.unit ![0, 0] ![1, 1536] i', k0_pay35 (F := Ideal)⟩]
      ((Rect.unit (s := S1x1536) ![0, 512] ![1, 512] h).idx (ix2 0 j)) = 0 := by
  refine (canon_skip i w _ _ 1 ?_).trans (canon_zero i' _)
  rw [Rect.idx_unit_val]
  change 0 + 512 ≤ 512 + j.val
  omega

/-- The zeroed carried row behind two stores in front of it. -/
theorem zero_v (w w' : FVec Ideal S1x512 .f32) (i i' i'' h) (j : Fin 512) :
    View.canon (Val := Elt Ideal) (s := S1x1536) (e := .f32)
      [⟨Rect.unit ![0, 512] ![1, 512] i, w⟩, ⟨Rect.unit ![0, 0] ![1, 512] i', w'⟩,
        ⟨Rect.unit ![0, 0] ![1, 1536] i'', k0_pay35 (F := Ideal)⟩]
      ((Rect.unit (s := S1x1536) ![0, 1024] ![1, 512] h).idx (ix2 0 j)) = 0 := by
  refine (canon_skip i w _ _ 1 ?_).trans ((canon_skip i' w' _ _ 1 ?_).trans (canon_zero i'' _))
  · rw [Rect.idx_unit_val]
    change 512 + 512 ≤ 1024 + j.val
    omega
  · rw [Rect.idx_unit_val]
    change 0 + 512 ≤ 1024 + j.val
    omega

/-- The zeroed low-rank row. -/
theorem zero_lora (x : S1x288.Idx) : k0_pay36 (F := Ideal) x = 0 := by
  pointwise [k0_pay36]

/-- The carried rows after a point are the last row of its block. -/
abbrev Carried (c : Dev nD) (t : Fin cfg0.N) : Prop :=
  (outsAt0 m c t.val t.isLt).2.2.2.2.1 = carried m c t ∧ (outsAt0 m c t.val t.isLt).2.2.2.2.2 = carriedLora m c t

set_option maxHeartbeats 1600000 in
/-- The carried row 1 after a point that fills the scratch. -/
theorem carry_1_A (c : Dev nD) (t : Fin cfg0.N) (h0 : t.val % 32 = 0) (h1 : t.val % 4 = 0) (y) : (sout0_A_1 c
    (grid0.coords t) (ms0_0 t) (hs0_0 t) (ms0_1 t) (hs0_1 t) (ms0_2 t) (hs0_2 t) (ms0_3 t) (hs0_3 t) (ms0_4 t) (hs0_4
    t) (ms0_5 t) (hs0_5 t) (ms0_6 t) (hs0_6 t) (ms0_7 t) (hs0_7 t) (ms0_8 t) (hs0_8 t) (ms0_9 t) (hs0_9 t) (ms0_10 t)
    (hs0_10 t) (ms0_11 t) (hs0_11 t) (ms0_12 t) (hs0_12 t) (ms0_13 t) (hs0_13 t) (ms0_14 t) (hs0_14 t) (ms0_15 t)
    (hs0_15 t) (ms0_16 t) (hs0_16 t) (ms0_17 t) (hs0_17 t) (ms0_18 t) (hs0_18 t) (ms0_19 t) (hs0_19 t) (ms0_20 t)
    (hs0_20 t) scM0_0 (Memref.isWhole_whole _) scM0_1 (Memref.isWhole_whole _) scM0_2 (Memref.isWhole_whole _)
    ((hcond0_0 t).mpr h0) ((hcond0_1 t).mpr h1) (iblk m c 0 t) (iblk m c 1 t) (iblk m c 2 t) (iblk m c 3 t) (iblk m c
    4 t) (iblk m c 5 t) (iblk m c 6 t) (iblk m c 7 t) (iblk m c 8 t) (iblk m c 9 t) (iblk m c 10 t) (iblk m c 11 t)
    (iblk m c 12 t) (iblk m c 13 t) (iblk m c 14 t) (iblk m c 15 t) (iblk m c 16 t) (iblk m c 17 t)) y = carried m c t
    y := by
  frame_out
  refine canon_carried (fun k j => ?_) (fun k j => ?_) (fun k j => ?_) _ _ _ _ y
  · exact cols_A m c t 2048 512 _ k j _
  · exact cols_A m c t 2560 512 _ k j _
  · exact cols_A m c t 3072 512 _ k j _

set_option maxHeartbeats 1600000 in
/-- The carried row 2 after a point that fills the scratch. -/
theorem carry_2_A (c : Dev nD) (t : Fin cfg0.N) (h0 : t.val % 32 = 0) (h1 : t.val % 4 = 0) (y) : (sout0_A_2 c
    (grid0.coords t) (ms0_0 t) (hs0_0 t) (ms0_1 t) (hs0_1 t) (ms0_2 t) (hs0_2 t) (ms0_3 t) (hs0_3 t) (ms0_4 t) (hs0_4
    t) (ms0_5 t) (hs0_5 t) (ms0_6 t) (hs0_6 t) (ms0_7 t) (hs0_7 t) (ms0_8 t) (hs0_8 t) (ms0_9 t) (hs0_9 t) (ms0_10 t)
    (hs0_10 t) (ms0_11 t) (hs0_11 t) (ms0_12 t) (hs0_12 t) (ms0_13 t) (hs0_13 t) (ms0_14 t) (hs0_14 t) (ms0_15 t)
    (hs0_15 t) (ms0_16 t) (hs0_16 t) (ms0_17 t) (hs0_17 t) (ms0_18 t) (hs0_18 t) (ms0_19 t) (hs0_19 t) (ms0_20 t)
    (hs0_20 t) scM0_0 (Memref.isWhole_whole _) scM0_1 (Memref.isWhole_whole _) scM0_2 (Memref.isWhole_whole _)
    ((hcond0_0 t).mpr h0) ((hcond0_1 t).mpr h1) (iblk m c 0 t) (iblk m c 1 t) (iblk m c 2 t) (iblk m c 3 t) (iblk m c
    4 t) (iblk m c 5 t) (iblk m c 6 t) (iblk m c 7 t) (iblk m c 8 t) (iblk m c 9 t) (iblk m c 10 t) (iblk m c 11 t)
    (iblk m c 12 t) (iblk m c 13 t) (iblk m c 14 t) (iblk m c 15 t) (iblk m c 16 t) (iblk m c 17 t)) y = carriedLora m
    c t y := by
  frame_out
  refine lora_carried (fun k j => ?_) y
  exact cols_A m c t 3584 288 _ k j _

/-- The carried row 1 after a point inside a sequence. -/
theorem carry_1_B (c : Dev nD) (t : Fin cfg0.N) (h0 : ¬t.val % 32 = 0) (h1 : ¬t.val % 4 = 0) (y) : (sout0_B_1 c
    (grid0.coords t) (ms0_0 t) (hs0_0 t) (ms0_1 t) (hs0_1 t) (ms0_2 t) (hs0_2 t) (ms0_3 t) (hs0_3 t) (ms0_4 t) (hs0_4
    t) (ms0_5 t) (hs0_5 t) (ms0_6 t) (hs0_6 t) (ms0_7 t) (hs0_7 t) (ms0_8 t) (hs0_8 t) (ms0_9 t) (hs0_9 t) (ms0_10 t)
    (hs0_10 t) (ms0_11 t) (hs0_11 t) (ms0_12 t) (hs0_12 t) (ms0_13 t) (hs0_13 t) (ms0_14 t) (hs0_14 t) (ms0_15 t)
    (hs0_15 t) (ms0_16 t) (hs0_16 t) (ms0_17 t) (hs0_17 t) (ms0_18 t) (hs0_18 t) (ms0_19 t) (hs0_19 t) (ms0_20 t)
    (hs0_20 t) scM0_0 (Memref.isWhole_whole _) scM0_1 (Memref.isWhole_whole _) scM0_2 (Memref.isWhole_whole _) (fun h
    => h0 ((hcond0_0 t).mp h)) (fun h => h1 ((hcond0_1 t).mp h)) (iblk m c 0 t) (iblk m c 1 t) (iblk m c 2 t) (iblk m
    c 3 t) (iblk m c 4 t) (iblk m c 5 t) (iblk m c 6 t) (iblk m c 7 t) (iblk m c 8 t) (iblk m c 9 t) (iblk m c 10 t)
    (iblk m c 11 t) (iblk m c 12 t) (iblk m c 13 t) (iblk m c 14 t) (iblk m c 15 t) (iblk m c 16 t) (iblk m c 17 t)
    (outsAt0 m c (t.val - 1) (Nat.lt_of_le_of_lt (Nat.sub_le _ _) t.isLt)).2.2.2.1 (outsAt0 m c (t.val - 1)
    (Nat.lt_of_le_of_lt (Nat.sub_le _ _) t.isLt)).2.2.2.2.1 (outsAt0 m c (t.val - 1) (Nat.lt_of_le_of_lt (Nat.sub_le _
    _) t.isLt)).2.2.2.2.2) y = carried m c t y := by
  frame_out
  refine canon_carried (fun k j => ?_) (fun k j => ?_) (fun k j => ?_) _ _ _ _ y
  · exact cols_BC m c t 2048 512 _ k j _
  · exact cols_BC m c t 2560 512 _ k j _
  · exact cols_BC m c t 3072 512 _ k j _

/-- The carried row 2 after a point inside a sequence. -/
theorem carry_2_B (c : Dev nD) (t : Fin cfg0.N) (h0 : ¬t.val % 32 = 0) (h1 : ¬t.val % 4 = 0) (y) : (sout0_B_2 c
    (grid0.coords t) (ms0_0 t) (hs0_0 t) (ms0_1 t) (hs0_1 t) (ms0_2 t) (hs0_2 t) (ms0_3 t) (hs0_3 t) (ms0_4 t) (hs0_4
    t) (ms0_5 t) (hs0_5 t) (ms0_6 t) (hs0_6 t) (ms0_7 t) (hs0_7 t) (ms0_8 t) (hs0_8 t) (ms0_9 t) (hs0_9 t) (ms0_10 t)
    (hs0_10 t) (ms0_11 t) (hs0_11 t) (ms0_12 t) (hs0_12 t) (ms0_13 t) (hs0_13 t) (ms0_14 t) (hs0_14 t) (ms0_15 t)
    (hs0_15 t) (ms0_16 t) (hs0_16 t) (ms0_17 t) (hs0_17 t) (ms0_18 t) (hs0_18 t) (ms0_19 t) (hs0_19 t) (ms0_20 t)
    (hs0_20 t) scM0_0 (Memref.isWhole_whole _) scM0_1 (Memref.isWhole_whole _) scM0_2 (Memref.isWhole_whole _) (fun h
    => h0 ((hcond0_0 t).mp h)) (fun h => h1 ((hcond0_1 t).mp h)) (iblk m c 0 t) (iblk m c 1 t) (iblk m c 2 t) (iblk m
    c 3 t) (iblk m c 4 t) (iblk m c 5 t) (iblk m c 6 t) (iblk m c 7 t) (iblk m c 8 t) (iblk m c 9 t) (iblk m c 10 t)
    (iblk m c 11 t) (iblk m c 12 t) (iblk m c 13 t) (iblk m c 14 t) (iblk m c 15 t) (iblk m c 16 t) (iblk m c 17 t)
    (outsAt0 m c (t.val - 1) (Nat.lt_of_le_of_lt (Nat.sub_le _ _) t.isLt)).2.2.2.1 (outsAt0 m c (t.val - 1)
    (Nat.lt_of_le_of_lt (Nat.sub_le _ _) t.isLt)).2.2.2.2.1 (outsAt0 m c (t.val - 1) (Nat.lt_of_le_of_lt (Nat.sub_le _
    _) t.isLt)).2.2.2.2.2) y = carriedLora m c t y := by
  frame_out
  refine lora_carried (fun k j => ?_) y
  exact cols_BC m c t 3584 288 _ k j _

/-- The carried row 1 after a point that begins a sequence. -/
theorem carry_1_C (c : Dev nD) (t : Fin cfg0.N) (h0 : ¬t.val % 32 = 0) (h1 : t.val % 4 = 0) (y) : (sout0_C_1 c
    (grid0.coords t) (ms0_0 t) (hs0_0 t) (ms0_1 t) (hs0_1 t) (ms0_2 t) (hs0_2 t) (ms0_3 t) (hs0_3 t) (ms0_4 t) (hs0_4
    t) (ms0_5 t) (hs0_5 t) (ms0_6 t) (hs0_6 t) (ms0_7 t) (hs0_7 t) (ms0_8 t) (hs0_8 t) (ms0_9 t) (hs0_9 t) (ms0_10 t)
    (hs0_10 t) (ms0_11 t) (hs0_11 t) (ms0_12 t) (hs0_12 t) (ms0_13 t) (hs0_13 t) (ms0_14 t) (hs0_14 t) (ms0_15 t)
    (hs0_15 t) (ms0_16 t) (hs0_16 t) (ms0_17 t) (hs0_17 t) (ms0_18 t) (hs0_18 t) (ms0_19 t) (hs0_19 t) (ms0_20 t)
    (hs0_20 t) scM0_0 (Memref.isWhole_whole _) scM0_1 (Memref.isWhole_whole _) scM0_2 (Memref.isWhole_whole _) (fun h
    => h0 ((hcond0_0 t).mp h)) ((hcond0_1 t).mpr h1) (iblk m c 0 t) (iblk m c 1 t) (iblk m c 2 t) (iblk m c 3 t) (iblk
    m c 4 t) (iblk m c 5 t) (iblk m c 6 t) (iblk m c 7 t) (iblk m c 8 t) (iblk m c 9 t) (iblk m c 10 t) (iblk m c 11
    t) (iblk m c 12 t) (iblk m c 13 t) (iblk m c 14 t) (iblk m c 15 t) (iblk m c 16 t) (iblk m c 17 t) (outsAt0 m c
    (t.val - 1) (Nat.lt_of_le_of_lt (Nat.sub_le _ _) t.isLt)).2.2.2.1) y = carried m c t y := by
  frame_out
  refine canon_carried (fun k j => ?_) (fun k j => ?_) (fun k j => ?_) _ _ _ _ y
  · exact cols_BC m c t 2048 512 _ k j _
  · exact cols_BC m c t 2560 512 _ k j _
  · exact cols_BC m c t 3072 512 _ k j _

/-- The carried row 2 after a point that begins a sequence. -/
theorem carry_2_C (c : Dev nD) (t : Fin cfg0.N) (h0 : ¬t.val % 32 = 0) (h1 : t.val % 4 = 0) (y) : (sout0_C_2 c
    (grid0.coords t) (ms0_0 t) (hs0_0 t) (ms0_1 t) (hs0_1 t) (ms0_2 t) (hs0_2 t) (ms0_3 t) (hs0_3 t) (ms0_4 t) (hs0_4
    t) (ms0_5 t) (hs0_5 t) (ms0_6 t) (hs0_6 t) (ms0_7 t) (hs0_7 t) (ms0_8 t) (hs0_8 t) (ms0_9 t) (hs0_9 t) (ms0_10 t)
    (hs0_10 t) (ms0_11 t) (hs0_11 t) (ms0_12 t) (hs0_12 t) (ms0_13 t) (hs0_13 t) (ms0_14 t) (hs0_14 t) (ms0_15 t)
    (hs0_15 t) (ms0_16 t) (hs0_16 t) (ms0_17 t) (hs0_17 t) (ms0_18 t) (hs0_18 t) (ms0_19 t) (hs0_19 t) (ms0_20 t)
    (hs0_20 t) scM0_0 (Memref.isWhole_whole _) scM0_1 (Memref.isWhole_whole _) scM0_2 (Memref.isWhole_whole _) (fun h
    => h0 ((hcond0_0 t).mp h)) ((hcond0_1 t).mpr h1) (iblk m c 0 t) (iblk m c 1 t) (iblk m c 2 t) (iblk m c 3 t) (iblk
    m c 4 t) (iblk m c 5 t) (iblk m c 6 t) (iblk m c 7 t) (iblk m c 8 t) (iblk m c 9 t) (iblk m c 10 t) (iblk m c 11
    t) (iblk m c 12 t) (iblk m c 13 t) (iblk m c 14 t) (iblk m c 15 t) (iblk m c 16 t) (iblk m c 17 t) (outsAt0 m c
    (t.val - 1) (Nat.lt_of_le_of_lt (Nat.sub_le _ _) t.isLt)).2.2.2.1) y = carriedLora m c t y := by
  frame_out
  refine lora_carried (fun k j => ?_) y
  exact cols_BC m c t 3584 288 _ k j _

/-- So it is after every point. -/
theorem carries (c : Dev nD) (t : Fin cfg0.N) : Carried m c t := by
  unfold Carried
  by_cases h0 : t.val % 32 = 0
  · have h1 : t.val % 4 = 0 := by omega
    rw [outsAt0_A m c t h0 h1]
    dsimp only
    exact ⟨funext fun y => carry_1_A m c t h0 h1 y, funext fun y => carry_2_A m c t h0 h1 y⟩
  · by_cases h1 : t.val % 4 = 0
    · rw [outsAt0_C m c t h0 h1]
      dsimp only
      exact ⟨funext fun y => carry_1_C m c t h0 h1 y, funext fun y => carry_2_C m c t h0 h1 y⟩
    · rw [outsAt0_B m c t h0 h1]
      dsimp only
      exact ⟨funext fun y => carry_1_B m c t h0 h1 y, funext fun y => carry_2_B m c t h0 h1 y⟩

/-- Inside a sequence the carried entries read are those of the row in front. -/
theorem front_B (c : Dev nD) (t : Fin cfg0.N) (h1 : ¬t.val % 4 = 0) (o : ℕ) (ho : o + 512 ≤ 1536) (h) (j : Fin 512) (q : Fin 3872)
    (hq : q.val = 2048 + (o + j.val)) :
    View.read (Elt Ideal) (View.whole cc0_scratch1) ((Memref.isWhole_whole cc0_scratch1).unread
      (outsAt0 m c (t.val - 1) (Nat.lt_of_le_of_lt (Nat.sub_le _ _) t.isLt)).2.2.2.2.1)
      ((Rect.unit (s := S1x1536) ![0, o] ![1, 512] h).idx (ix2 0 j)) = front m c t q := by
  refine (congrFun (((Memref.isWhole_whole cc0_scratch1).read_unread _).trans
    (carries m c ⟨t.val - 1, Nat.lt_of_le_of_lt (Nat.sub_le _ _) t.isLt⟩).1) _).trans ?_
  refine (row_idx (carried m c _) o h j (by omega)).trans ((congrArg (last m c _) (Fin.ext ?_)).trans (front_last m c t h1 q).symm)
  exact hq.symm

/-- The low-rank entries likewise. -/
theorem front_lora_B (c : Dev nD) (t : Fin cfg0.N) (h1 : ¬t.val % 4 = 0) (j : Fin 288) :
    View.read (Elt Ideal) (View.whole cc0_scratch2) ((Memref.isWhole_whole cc0_scratch2).unread
      (outsAt0 m c (t.val - 1) (Nat.lt_of_le_of_lt (Nat.sub_le _ _) t.isLt)).2.2.2.2.2) (ix2 0 j)
      = front m c t ⟨3584 + j.val, by omega⟩ :=
  (congrFun (((Memref.isWhole_whole cc0_scratch2).read_unread _).trans
    (carries m c ⟨t.val - 1, Nat.lt_of_le_of_lt (Nat.sub_le _ _) t.isLt⟩).2) _).trans (front_last m c t h1 _).symm

end Cert.PrepIdeal.Value

end
-- ==== Proof.PrepValue.lean ====
/- Value of the input-projection call at the ideal numbers: the streams. -/
module

public import proofs.«01_k».proof.Proof.Gen.PrepIdeal.Value
public import proofs.«01_k».proof.Proof.PrepCarry
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.PrepIdeal.Value

open Cert.PrepIdeal Cert.PrepIdeal.Gen

variable (m : (ℓ : Loc nD τ sig) → Buf (Elt Ideal) ℓ)

set_option maxHeartbeats 1600000 in
/-- The result's block at a point that fills the scratch. -/
theorem point_19_A (c : Dev nD) (t : Fin cfg0.N) (h0 : t.val % 32 = 0) (h1 : t.val % 4 = 0) (y) : (out0_A_19 c
    (grid0.coords t) (ms0_0 t) (hs0_0 t) (ms0_1 t) (hs0_1 t) (ms0_2 t) (hs0_2 t) (ms0_3 t) (hs0_3 t) (ms0_4 t) (hs0_4
    t) (ms0_5 t) (hs0_5 t) (ms0_6 t) (hs0_6 t) (ms0_7 t) (hs0_7 t) (ms0_8 t) (hs0_8 t) (ms0_9 t) (hs0_9 t) (ms0_10 t)
    (hs0_10 t) (ms0_11 t) (hs0_11 t) (ms0_12 t) (hs0_12 t) (ms0_13 t) (hs0_13 t) (ms0_14 t) (hs0_14 t) (ms0_15 t)
    (hs0_15 t) (ms0_16 t) (hs0_16 t) (ms0_17 t) (hs0_17 t) (ms0_18 t) (hs0_18 t) (ms0_19 t) (hs0_19 t) (ms0_20 t)
    (hs0_20 t) scM0_0 (Memref.isWhole_whole _) scM0_1 (Memref.isWhole_whole _) scM0_2 (Memref.isWhole_whole _)
    ((hcond0_0 t).mpr h0) ((hcond0_1 t).mpr h1) (iblk m c 0 t) (iblk m c 1 t) (iblk m c 2 t) (iblk m c 3 t) (iblk m c
    4 t) (iblk m c 5 t) (iblk m c 6 t) (iblk m c 7 t) (iblk m c 8 t) (iblk m c 9 t) (iblk m c 10 t) (iblk m c 11 t)
    (iblk m c 12 t) (iblk m c 13 t) (iblk m c 14 t) (iblk m c 15 t) (iblk m c 16 t) (iblk m c 17 t)) y = allRows (m
    ((c : Thread nD τ).loc main_arg0)) (m ((c : Thread nD τ).loc main_arg2)) (m ((c : Thread nD τ).loc main_arg3)) (m
    ((c : Thread nD τ).loc main_arg6)) (m ((c : Thread nD τ).loc main_arg9)) (m ((c : Thread nD τ).loc main_arg10)) (m
    ((c : Thread nD τ).loc main_arg11)) (m ((c : Thread nD τ).loc main_arg13)) (m ((c : Thread nD τ).loc main_arg14))
    (((cfg0.win 19).blk t).view.emb y) := by
  frame_out
  refine out_19 (fun k j => ?_) (fun k j => ?_) (fun k j => ?_) (fun k j => ?_) (fun k j => ?_) (fun j => ?_) (fun j => ?_)
    (fun j => ?_) (fun j => ?_) (fun j => ?_) (fun j => ?_) (fun j => ?_) _ _ rfl rfl _ _ _ y
  · exact cols_A m c t 1536 512 _ k j _
  · exact cols_A m c t 2048 512 _ k j _
  · exact cols_A m c t 2560 512 _ k j _
  · exact cols_A m c t 3072 512 _ k j _
  · exact cols_A m c t 3584 288 _ k j _
  · exact (readCov_idx _ _ _ _).trans ((canon_zero _ _).trans (front_zero m c t h1 _).symm)
  · exact (readCov_idx _ _ _ _).trans ((zero_k _ _ _ _ j).trans (front_zero m c t h1 _).symm)
  · exact (readCov_idx _ _ _ _).trans ((zero_v _ _ _ _ _ _ j).trans (front_zero m c t h1 _).symm)
  · exact (zero_lora _).trans (front_zero m c t h1 _).symm
  · exact share_ld0 m c t _ j
  · exact share_ld m c t 512 (by omega) _ j
  · exact share_ld m c t 1024 (by omega) _ j

set_option maxHeartbeats 1600000 in
/-- The result's block at a point inside a sequence. -/
theorem point_19_B (c : Dev nD) (t : Fin cfg0.N) (h0 : ¬t.val % 32 = 0) (h1 : ¬t.val % 4 = 0) (y) : (out0_B_19 c
    (grid0.coords t) (ms0_0 t) (hs0_0 t) (ms0_1 t) (hs0_1 t) (ms0_2 t) (hs0_2 t) (ms0_3 t) (hs0_3 t) (ms0_4 t) (hs0_4
    t) (ms0_5 t) (hs0_5 t) (ms0_6 t) (hs0_6 t) (ms0_7 t) (hs0_7 t) (ms0_8 t) (hs0_8 t) (ms0_9 t) (hs0_9 t) (ms0_10 t)
    (hs0_10 t) (ms0_11 t) (hs0_11 t) (ms0_12 t) (hs0_12 t) (ms0_13 t) (hs0_13 t) (ms0_14 t) (hs0_14 t) (ms0_15 t)
    (hs0_15 t) (ms0_16 t) (hs0_16 t) (ms0_17 t) (hs0_17 t) (ms0_18 t) (hs0_18 t) (ms0_19 t) (hs0_19 t) (ms0_20 t)
    (hs0_20 t) scM0_0 (Memref.isWhole_whole _) scM0_1 (Memref.isWhole_whole _) scM0_2 (Memref.isWhole_whole _) (fun h
    => h0 ((hcond0_0 t).mp h)) (fun h => h1 ((hcond0_1 t).mp h)) (iblk m c 0 t) (iblk m c 1 t) (iblk m c 2 t) (iblk m
    c 3 t) (iblk m c 4 t) (iblk m c 5 t) (iblk m c 6 t) (iblk m c 7 t) (iblk m c 8 t) (iblk m c 9 t) (iblk m c 10 t)
    (iblk m c 11 t) (iblk m c 12 t) (iblk m c 13 t) (iblk m c 14 t) (iblk m c 15 t) (iblk m c 16 t) (iblk m c 17 t)
    (outsAt0 m c (t.val - 1) (Nat.lt_of_le_of_lt (Nat.sub_le _ _) t.isLt)).2.2.2.1 (outsAt0 m c (t.val - 1)
    (Nat.lt_of_le_of_lt (Nat.sub_le _ _) t.isLt)).2.2.2.2.1 (outsAt0 m c (t.val - 1) (Nat.lt_of_le_of_lt (Nat.sub_le _
    _) t.isLt)).2.2.2.2.2) y = allRows (m ((c : Thread nD τ).loc main_arg0)) (m ((c : Thread nD τ).loc main_arg2)) (m
    ((c : Thread nD τ).loc main_arg3)) (m ((c : Thread nD τ).loc main_arg6)) (m ((c : Thread nD τ).loc main_arg9)) (m
    ((c : Thread nD τ).loc main_arg10)) (m ((c : Thread nD τ).loc main_arg11)) (m ((c : Thread nD τ).loc main_arg13))
    (m ((c : Thread nD τ).loc main_arg14)) (((cfg0.win 19).blk t).view.emb y) := by
  frame_out
  refine out_19 (fun k j => ?_) (fun k j => ?_) (fun k j => ?_) (fun k j => ?_) (fun k j => ?_) (fun j => ?_) (fun j => ?_)
    (fun j => ?_) (fun j => ?_) (fun j => ?_) (fun j => ?_) (fun j => ?_) _ _ rfl rfl _ _ _ y
  · exact cols_BC m c t 1536 512 _ k j _
  · exact cols_BC m c t 2048 512 _ k j _
  · exact cols_BC m c t 2560 512 _ k j _
  · exact cols_BC m c t 3072 512 _ k j _
  · exact cols_BC m c t 3584 288 _ k j _
  · exact front_B m c t h1 0 (by omega) _ j _ (by change 2048 + j.val = 2048 + (0 + j.val); omega)
  · exact front_B m c t h1 512 (by omega) _ j _ (by change 2560 + j.val = 2048 + (512 + j.val); omega)
  · exact front_B m c t h1 1024 (by omega) _ j _ (by change 3072 + j.val = 2048 + (1024 + j.val); omega)
  · exact front_lora_B m c t h1 j
  · exact share_ld0 m c t _ j
  · exact share_ld m c t 512 (by omega) _ j
  · exact share_ld m c t 1024 (by omega) _ j

set_option maxHeartbeats 1600000 in
/-- The result's block at a point that begins a sequence. -/
theorem point_19_C (c : Dev nD) (t : Fin cfg0.N) (h0 : ¬t.val % 32 = 0) (h1 : t.val % 4 = 0) (y) : (out0_C_19 c
    (grid0.coords t) (ms0_0 t) (hs0_0 t) (ms0_1 t) (hs0_1 t) (ms0_2 t) (hs0_2 t) (ms0_3 t) (hs0_3 t) (ms0_4 t) (hs0_4
    t) (ms0_5 t) (hs0_5 t) (ms0_6 t) (hs0_6 t) (ms0_7 t) (hs0_7 t) (ms0_8 t) (hs0_8 t) (ms0_9 t) (hs0_9 t) (ms0_10 t)
    (hs0_10 t) (ms0_11 t) (hs0_11 t) (ms0_12 t) (hs0_12 t) (ms0_13 t) (hs0_13 t) (ms0_14 t) (hs0_14 t) (ms0_15 t)
    (hs0_15 t) (ms0_16 t) (hs0_16 t) (ms0_17 t) (hs0_17 t) (ms0_18 t) (hs0_18 t) (ms0_19 t) (hs0_19 t) (ms0_20 t)
    (hs0_20 t) scM0_0 (Memref.isWhole_whole _) scM0_1 (Memref.isWhole_whole _) scM0_2 (Memref.isWhole_whole _) (fun h
    => h0 ((hcond0_0 t).mp h)) ((hcond0_1 t).mpr h1) (iblk m c 0 t) (iblk m c 1 t) (iblk m c 2 t) (iblk m c 3 t) (iblk
    m c 4 t) (iblk m c 5 t) (iblk m c 6 t) (iblk m c 7 t) (iblk m c 8 t) (iblk m c 9 t) (iblk m c 10 t) (iblk m c 11
    t) (iblk m c 12 t) (iblk m c 13 t) (iblk m c 14 t) (iblk m c 15 t) (iblk m c 16 t) (iblk m c 17 t) (outsAt0 m c
    (t.val - 1) (Nat.lt_of_le_of_lt (Nat.sub_le _ _) t.isLt)).2.2.2.1) y = allRows (m ((c : Thread nD τ).loc
    main_arg0)) (m ((c : Thread nD τ).loc main_arg2)) (m ((c : Thread nD τ).loc main_arg3)) (m ((c : Thread nD τ).loc
    main_arg6)) (m ((c : Thread nD τ).loc main_arg9)) (m ((c : Thread nD τ).loc main_arg10)) (m ((c : Thread nD τ).loc
    main_arg11)) (m ((c : Thread nD τ).loc main_arg13)) (m ((c : Thread nD τ).loc main_arg14)) (((cfg0.win 19).blk
    t).view.emb y) := by
  frame_out
  refine out_19 (fun k j => ?_) (fun k j => ?_) (fun k j => ?_) (fun k j => ?_) (fun k j => ?_) (fun j => ?_) (fun j => ?_)
    (fun j => ?_) (fun j => ?_) (fun j => ?_) (fun j => ?_) (fun j => ?_) _ _ rfl rfl _ _ _ y
  · exact cols_BC m c t 1536 512 _ k j _
  · exact cols_BC m c t 2048 512 _ k j _
  · exact cols_BC m c t 2560 512 _ k j _
  · exact cols_BC m c t 3072 512 _ k j _
  · exact cols_BC m c t 3584 288 _ k j _
  · exact (readCov_idx _ _ _ _).trans ((canon_zero _ _).trans (front_zero m c t h1 _).symm)
  · exact (readCov_idx _ _ _ _).trans ((zero_k _ _ _ _ j).trans (front_zero m c t h1 _).symm)
  · exact (readCov_idx _ _ _ _).trans ((zero_v _ _ _ _ _ _ j).trans (front_zero m c t h1 _).symm)
  · exact (zero_lora _).trans (front_zero m c t h1 _).symm
  · exact share_ld0 m c t _ j
  · exact share_ld m c t 512 (by omega) _ j
  · exact share_ld m c t 1024 (by omega) _ j

/-- The result after the last grid point: the three streams of every row. -/
theorem final_19 (c : Dev nD) : (dats m 0 c).arrAt 19 (cfgs 0).N = allRows (m ((c : Thread nD τ).loc main_arg0)) (m
    ((c : Thread nD τ).loc main_arg2)) (m ((c : Thread nD τ).loc main_arg3)) (m ((c : Thread nD τ).loc main_arg6)) (m
    ((c : Thread nD τ).loc main_arg9)) (m ((c : Thread nD τ).loc main_arg10)) (m ((c : Thread nD τ).loc main_arg11))
    (m ((c : Thread nD τ).loc main_arg13)) (m ((c : Thread nD τ).loc main_arg14)) := by
  refine (dats m 0 c).arrAt_eq_of_covers 19 _ (by decide +kernel) fun t hf y => ?_
  blk_simp; rw [after0_19]
  by_cases h0 : t.val % 32 = 0
  · have h1 : t.val % 4 = 0 := by omega
    rw [outsAt0_A m c t h0 h1]; dsimp only; exact point_19_A m c t h0 h1 y
  · by_cases h1 : t.val % 4 = 0
    · rw [outsAt0_C m c t h0 h1]; dsimp only; exact point_19_C m c t h0 h1 y
    · rw [outsAt0_B m c t h0 h1]; dsimp only; exact point_19_B m c t h0 h1 y

end Cert.PrepIdeal.Value

end
-- ==== Proof.PrepRefValue.lean ====
/- Value of the input-projection reference at an index, one stage after the other. -/
module

public import proofs.«01_k».proof.Proof.Gen.PrepRefIdeal.Read
public import proofs.«01_k».proof.Proof.PrepSpec
public import Idealize.ShloMosaic.Lib.Pointwise

@[expose] public section

set_option maxRecDepth 16384

noncomputable section

open Idealize.ShloMosaic Idealize.ShloMosaic.TcCoe Idealize.SL.Sem
open scoped BigOperators

namespace Cert.PrepRefIdeal.Read

open Cert.PrepRefIdeal Cert.PrepRefIdeal.Gen

section
variable (x : FVec Ideal S16384x1024 .f32) (g : FVec Ideal S1x1024 .f32) (w : FVec Ideal S1024x3872 .f32)
  (mu : FVec Ideal S1x1824 .f32) (a0 : FVec Ideal S1x512 .f32) (aup : FVec Ideal S64x512 .f32)
  (gup : FVec Ideal S160x512 .f32) (ka rk : FVec Ideal S1x512 .f32)

/-- The projected rows, by row number. -/
abbrev projRow (i : Fin 16384) (j : Fin 3872) : EReal :=
  Layer.proj (fun l => x (ix2 i l)) (fun l => g (ix2 0 l)) (fun k j => w (ix2 k j)) j

/-- The projection. -/
theorem proj_at (b : Fin 8) (t : Fin 2048) (j : Fin 3872) :
    val_main_v15 (F := Ideal) x g w (ix3 b t j) = projRow x g w ⟨b.val * 2048 + t.val, by omega⟩ j := by
  pointwise [val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, projRow, Layer.proj, Layer.rms]

/-- The row before, zero in front of a sequence. -/
theorem before_at (b : Fin 8) (t : Fin 2048) (j : Fin 1824) :
    val_main_v20 (F := Ideal) x g w (ix3 b t j)
      = if t.val = 0 then 0 else projRow x g w ⟨b.val * 2048 + t.val - 1, by omega⟩ ⟨2048 + j.val, by omega⟩ := by
  pointwise [val_main_v20, val_main_v19, val_main_v17, val_main_call0_v0, val_main_c, proj_at]
  have hz : FloatOps.sitofp (F := Ideal) FTy.f32 (0#32) = (0 : EReal) := by
    change (((0#32 : BitVec 32).toInt : ℝ) : EReal) = 0
    simp
  by_cases h : t.val = 0
  · rw [if_pos h, dif_neg (by omega)]
    exact hz
  · rw [if_neg h, dif_pos (by omega)]
    exact congrArg (fun i => projRow x g w i _) (Fin.ext (by change b.val * 2048 + (t.val - 1) = b.val * 2048 + t.val - 1; omega))

/-- The token shift. -/
theorem shifted_at (b : Fin 8) (t : Fin 2048) (j : Fin 1824) :
    val_main_v25 (F := Ideal) x g w mu (ix3 b t j)
      = Layer.shifted (projRow x g w) (fun j => mu (ix2 0 j)) ⟨b.val * 2048 + t.val, by omega⟩ j := by
  have hb : val_main_v20 (F := Ideal) x g w (ix3 b t j)
      = if (b.val * 2048 + t.val) % 2048 = 0 then 0
        else projRow x g w ⟨b.val * 2048 + t.val - 1, by omega⟩ ⟨2048 + j.val, by omega⟩ := by
    rw [before_at, show (b.val * 2048 + t.val) % 2048 = t.val by omega]
  pointwise [val_main_v25, val_main_v24, val_main_v23, val_main_v22, val_main_v21, val_main_v18, val_main_v17, proj_at, hb, Layer.shifted, Layer.mix]

/-- The learning rate. -/
theorem rate_at (b : Fin 8) (t : Fin 2048) (j : Fin 512) :
    val_main_v42 (F := Ideal) x g w mu a0 aup (ix3 b t j)
      = Layer.rate (fun i => a0 (ix2 0 i)) (fun e => Layer.shifted (projRow x g w) (fun j => mu (ix2 0 j))
          ⟨b.val * 2048 + t.val, by omega⟩ ⟨1600 + e.val, by omega⟩) (fun e i => aup (ix2 e i)) j := by
  pointwise [val_main_v42, val_main_v41, val_main_v40, val_main_v39, val_main_v38, val_main_v37, val_main_v36, val_main_v35, val_main_v34, val_main_v33, val_main_v32, val_main_v30, val_main_cst_2, val_main_cst_3, shifted_at, Layer.rate, Layer.sig_eq]

/-- The output gate. -/
theorem gate_at (b : Fin 8) (t : Fin 2048) (j : Fin 512) :
    val_main_v49 (F := Ideal) x g w mu gup (ix3 b t j)
      = Layer.gate (fun e => Layer.shifted (projRow x g w) (fun j => mu (ix2 0 j))
          ⟨b.val * 2048 + t.val, by omega⟩ ⟨1664 + e.val, by omega⟩) (fun e i => gup (ix2 e i)) j := by
  pointwise [val_main_v49, val_main_v48, val_main_v47, val_main_v46, val_main_v45, val_main_v44, val_main_v43, val_main_v31, val_main_cst_4, val_main_cst_5, shifted_at, Layer.gate, Layer.sig_eq]

/-- The swish of the retention gate. -/
theorem swish_at (b : Fin 8) (t : Fin 2048) (j : Fin 512) :
    val_main_v71 (F := Ideal) x g w (ix3 b t j)
      = Layer.swish (projRow x g w ⟨b.val * 2048 + t.val, by omega⟩ ⟨1536 + j.val, by omega⟩) := by
  pointwise [val_main_v71, val_main_call1_v5, val_main_call1_v4, val_main_call1_v3, val_main_call1_v2, val_main_call1_v1, val_main_call1_v0, val_main_call1_cst, val_main_call1_cst_0, val_main_v16, proj_at, Layer.swish, Layer.sig_eq]

/-- The products a head sums, by column of the block of 512. -/
abbrev headProd (i : Fin 16384) (j : Fin 512) : EReal :=
  Layer.shifted (projRow x g w) (fun j => mu (ix2 0 j)) i ⟨j.val, by omega⟩
    * Layer.key (Layer.shifted (projRow x g w) (fun j => mu (ix2 0 j)) i ⟨512 + j.val, by omega⟩)
        (Layer.rate (fun i => a0 (ix2 0 i)) (fun e => Layer.shifted (projRow x g w) (fun j => mu (ix2 0 j)) i
          ⟨1600 + e.val, by omega⟩) (fun e i => aup (ix2 e i)) j) (ka (ix2 0 j))
    * rk (ix2 0 j)

/-- The products a head sums. -/
theorem prod_at (b : Fin 8) (t : Fin 2048) (h : Fin 8) (d : Fin 64) :
    val_main_v66 (F := Ideal) x g w mu a0 aup ka rk (ix4 b t h d)
      = headProd x g w mu a0 aup ka rk ⟨b.val * 2048 + t.val, by omega⟩ ⟨h.val * 64 + d.val, by omega⟩ := by
  pointwise [val_main_v66, val_main_v65, val_main_v64, val_main_v63, val_main_v62, val_main_v60, val_main_v59, val_main_v58, val_main_v57, val_main_v56, val_main_v55, val_main_v54, val_main_v53, val_main_v52, val_main_v51, val_main_v50, val_main_v27, val_main_v26, val_main_cst_6, val_main_cst_7, shifted_at, rate_at, Layer.key, headProd]

/-- The bonus. -/
theorem bonus_at (b : Fin 8) (t : Fin 2048) (j : Fin 512) :
    val_main_v72 (F := Ideal) x g w mu a0 aup ka rk (ix3 b t j)
      = Layer.bonus (headProd x g w mu a0 aup ka rk ⟨b.val * 2048 + t.val, by omega⟩)
          (fun j => Layer.shifted (projRow x g w) (fun j => mu (ix2 0 j)) ⟨b.val * 2048 + t.val, by omega⟩
            ⟨1024 + j.val, by omega⟩) j := by
  pointwise [val_main_v72, val_main_v70, val_main_v69, val_main_v68, val_main_v67, val_main_v61, val_main_v28, val_main_cst_8, prod_at, shifted_at, Layer.bonus]

/-- The three streams of the reference. -/
theorem streams_at (i : Fin 16384) (c : Fin 1536) :
    val_main_v74 (F := Ideal) x g w mu a0 aup gup ka rk (ix2 i c)
      = Layer.allStreams (projRow x g w) (fun j => mu (ix2 0 j)) (fun i => a0 (ix2 0 i)) (fun e i => aup (ix2 e i))
          (fun e i => gup (ix2 e i)) (fun i => ka (ix2 0 i)) (fun i => rk (ix2 0 i)) i c := by
  have hi : ∀ h, (⟨i.val / 2048 * 2048 + i.val % 2048, h⟩ : Fin 16384) = i := fun _ => Fin.ext (by
    change i.val / 2048 * 2048 + i.val % 2048 = i.val; omega)
  pointwise [val_main_v74, val_main_v73, swish_at, bonus_at, gate_at, Layer.allStreams, Layer.streams]
  simp only [hi]

end

end Cert.PrepRefIdeal.Read

end
-- ==== Proof.lean ====
module

public import proofs.«01_k».proof.Defs
public import proofs.«01_k».proof.Proof.Gen.PrepIdeal.Value
public import proofs.«01_k».proof.Proof.Gen.PrepRefIdeal.Run
public import proofs.«01_k».proof.Proof.Gen.PrepRefIdeal.Read
public import proofs.«01_k».proof.Proof.Gen.Prep
public import proofs.«01_k».proof.Proof.Gen.Prep.Skeleton
public import proofs.«01_k».proof.Proof.Gen.Prep.Launch
public import proofs.«01_k».proof.Proof.Gen.Prep.Points
public import proofs.«01_k».proof.Proof.Gen.Prep.Frame
public import proofs.«01_k».proof.Proof.Gen.PrepIdeal
public import proofs.«01_k».proof.Proof.Gen.PrepIdeal.Skeleton
public import proofs.«01_k».proof.Proof.Gen.PrepIdeal.Launch
public import proofs.«01_k».proof.Proof.Gen.PrepIdeal.Points
public import proofs.«01_k».proof.Proof.Gen.PrepIdeal.Frame
public import proofs.«01_k».proof.Proof.Gen.PrepRefIdeal
public import proofs.«01_k».proof.Proof.Gen.Post
public import proofs.«01_k».proof.Proof.Gen.Post.Skeleton
public import proofs.«01_k».proof.Proof.Gen.Post.Launch
public import proofs.«01_k».proof.Proof.Gen.Post.Points
public import proofs.«01_k».proof.Proof.Gen.Post.Frame
public import proofs.«01_k».proof.Proof.Gen.PostIdeal
public import proofs.«01_k».proof.Proof.Gen.PostIdeal.Skeleton
public import proofs.«01_k».proof.Proof.Gen.PostIdeal.Launch
public import proofs.«01_k».proof.Proof.Gen.PostIdeal.Points
public import proofs.«01_k».proof.Proof.Gen.PostIdeal.Frame
public import proofs.«01_k».proof.Proof.Gen.PostRefIdeal
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpRefIdeal
public import proofs.«01_k».proof.Proof.Gen.Kv
public import proofs.«01_k».proof.Proof.Gen.Kv.Skeleton
public import proofs.«01_k».proof.Proof.Gen.Kv.Launch
public import proofs.«01_k».proof.Proof.Gen.Kv.Points
public import proofs.«01_k».proof.Proof.Gen.Kv.Frame
public import proofs.«01_k».proof.Proof.Gen.KvIdeal
public import proofs.«01_k».proof.Proof.Gen.KvIdeal.Skeleton
public import proofs.«01_k».proof.Proof.Gen.KvIdeal.Launch
public import proofs.«01_k».proof.Proof.Gen.KvIdeal.Points
public import proofs.«01_k».proof.Proof.Gen.KvIdeal.Frame
public import proofs.«01_k».proof.Proof.Gen.KvRefIdeal
public import proofs.«01_k».proof.Proof.Gen.PostIdeal.Value
public import proofs.«01_k».proof.Proof.Gen.MlpIdeal.Value
public import proofs.«01_k».proof.Proof.Gen.KvIdeal.Value
public import proofs.«01_k».proof.Proof.Gen.PostRefIdeal.Run
public import proofs.«01_k».proof.Proof.Gen.PostRefIdeal.Read
public import proofs.«01_k».proof.Proof.Gen.MlpRefIdeal.Run
public import proofs.«01_k».proof.Proof.Gen.MlpRefIdeal.Read
public import proofs.«01_k».proof.Proof.Gen.KvRefIdeal.Run
public import proofs.«01_k».proof.Proof.Gen.KvRefIdeal.Read
public import proofs.«01_k».proof.Proof.PostValue
public import proofs.«01_k».proof.Proof.PostRefValue
public import proofs.«01_k».proof.Proof.MlpValue
public import proofs.«01_k».proof.Proof.MlpRefValue
public import proofs.«01_k».proof.Proof.KvValue
public import proofs.«01_k».proof.Proof.KvRefValue
public import proofs.«01_k».proof.Proof.PrepValue
public import proofs.«01_k».proof.Proof.PrepRefValue
public import Idealize.ShloMosaic.Lib.Claim
public import Idealize.ShloMosaic.Lib.Pipeline.ValueKit
public import Idealize.ShloMosaic.Lib.Pointwise
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- Post runs on every input, ends quiet and keeps its arguments. -/
theorem frame_Post : quiescent_Post (hPost := Cert.Post.Gen.facts) := fun m g _ => Cert.Post.Gen.frame m g

/-- The same of its idealised copy. -/
theorem frame_PostIdeal : quiescent_PostIdeal (hPostIdeal := Cert.PostIdeal.Gen.facts) := fun m g _ => Cert.PostIdeal.Gen.frame m g

/-- The same of its reference. -/
theorem frame_PostRefIdeal : quiescent_PostRefIdeal (hPostRefIdeal := Cert.PostRefIdeal.Gen.facts) := fun m g _ =>
  (θ_run _ _ _).mono (fun r h => ⟨fun c => (h c).2.2.2, sem_eq_zero_of_no_sems (by decide) _⟩) (Cert.PostRefIdeal.Value.run m g)

/-- Mlp runs on every input, ends quiet and keeps its arguments. -/
theorem frame_Mlp : quiescent_Mlp (hMlp := Cert.Mlp.Gen.facts) := fun m g _ => Cert.Mlp.Gen.frame m g

/-- The same of its idealised copy. -/
theorem frame_MlpIdeal : quiescent_MlpIdeal (hMlpIdeal := Cert.MlpIdeal.Gen.facts) := fun m g _ => Cert.MlpIdeal.Gen.frame m g

/-- The same of its reference. -/
theorem frame_MlpRefIdeal : quiescent_MlpRefIdeal (hMlpRefIdeal := Cert.MlpRefIdeal.Gen.facts) := fun m g _ =>
  (θ_run _ _ _).mono (fun r h => ⟨fun c => (h c).2, sem_eq_zero_of_no_sems (by decide) _⟩) (Cert.MlpRefIdeal.Value.run m g)

/-- Kv runs on every input, ends quiet and keeps its arguments. -/
theorem frame_Kv : quiescent_Kv (hKv := Cert.Kv.Gen.facts) := fun m g _ => Cert.Kv.Gen.frame m g

/-- The same of its idealised copy. -/
theorem frame_KvIdeal : quiescent_KvIdeal (hKvIdeal := Cert.KvIdeal.Gen.facts) := fun m g _ => Cert.KvIdeal.Gen.frame m g

/-- The same of its reference. -/
theorem frame_KvRefIdeal : quiescent_KvRefIdeal (hKvRefIdeal := Cert.KvRefIdeal.Gen.facts) := fun m g _ =>
  (θ_run _ _ _).mono (fun r h => ⟨fun c => (h c).2, sem_eq_zero_of_no_sems (by decide) _⟩) (Cert.KvRefIdeal.Value.run m g)

/-- Prep runs on every input, ends quiet and keeps its arguments. -/
theorem frame_Prep : quiescent_Prep (hPrep := Cert.Prep.Gen.facts) := fun m g _ => Cert.Prep.Gen.frame m g

/-- The same of its idealised copy. -/
theorem frame_PrepIdeal : quiescent_PrepIdeal (hPrepIdeal := Cert.PrepIdeal.Gen.facts) := fun m g _ => Cert.PrepIdeal.Gen.frame m g

/-- The same of its reference. -/
theorem frame_PrepRefIdeal : quiescent_PrepRefIdeal (hPrepRefIdeal := Cert.PrepRefIdeal.Gen.facts) := fun m g _ =>
  (θ_run _ _ _).mono (fun r h => ⟨fun c => (h c).2, sem_eq_zero_of_no_sems (by decide) _⟩) (Cert.PrepRefIdeal.Value.run m g)

/-- The key/value reference as one array. -/
theorem kv_ref (x : FVec Ideal Cert.KvRefIdeal.S2048x1024 .f32) (g : FVec Ideal Cert.KvRefIdeal.S1x1024 .f32)
    (w : FVec Ideal Cert.KvRefIdeal.S1024x2048 .f32) :
    Cert.KvRefIdeal.Read.val_main_v15 (F := Ideal) x g w = Cert.KvIdeal.Value.G x g w := by
  funext i
  idx_vars i
  exact Cert.KvRefIdeal.Read.final_at x g w _ _

/-- The key/value projection computes its reference. -/
theorem value_Kv : algebraic_KvIdeal_KvRefIdeal (hKvIdeal := Cert.KvIdeal.Gen.facts) (hKvRefIdeal := Cert.KvRefIdeal.Gen.facts) := by
  pair_intro
  · run_from Cert.KvIdeal.Value.run_blocks m g
  · run_from Cert.KvRefIdeal.Value.run m' g'
    exact (kv_ref _ _ _).trans (Cert.KvIdeal.Value.final m c).symm

/-- The feed-forward reference as one array. -/
theorem mlp_ref (x : FVec Ideal Cert.MlpRefIdeal.S16384x1024 .f32) (g : FVec Ideal Cert.MlpRefIdeal.S1x1024 .f32)
    (wu : FVec Ideal Cert.MlpRefIdeal.S1024x4096 .bf16) (wd : FVec Ideal Cert.MlpRefIdeal.S4096x1024 .bf16)
    (gf : FVec Ideal Cert.MlpRefIdeal.S1x1024 .f32) :
    Cert.MlpRefIdeal.Read.val_main_v34 (F := Ideal) x g wu wd gf = Cert.MlpIdeal.Value.G x g wu wd gf := by
  funext i
  idx_vars i
  exact Cert.MlpRefIdeal.Read.final_at x g wu wd gf _ _

/-- The feed-forward call computes its reference. -/
theorem value_Mlp : algebraic_MlpIdeal_MlpRefIdeal (hMlpIdeal := Cert.MlpIdeal.Gen.facts) (hMlpRefIdeal := Cert.MlpRefIdeal.Gen.facts) := by
  pair_intro
  · run_from Cert.MlpIdeal.Value.run_blocks m g
  · run_from Cert.MlpRefIdeal.Value.run m' g'
    refine (Cert.MlpRefIdeal.Read.val_main_v34_eq m' c).trans ?_
    obtain ⟨a0, a1, a2, a3, a4⟩ := hagree c
    rw [a0, a1, a2, a3, a4]
    exact (mlp_ref _ _ _ _ _).trans (Cert.MlpIdeal.Value.final m c).symm

/-- The cross-attention reference as one array. -/
theorem post_ref (x : FVec Ideal Cert.PostRefIdeal.S8x2048x1024 .f32) (y : FVec Ideal Cert.PostRefIdeal.S8x2048x1024 .bf16)
    (w : FVec Ideal Cert.PostRefIdeal.S1024x1024 .f32) (g : FVec Ideal Cert.PostRefIdeal.S1x1024 .f32)
    (wq : FVec Ideal Cert.PostRefIdeal.S1024x1024 .f32) (kv : FVec Ideal Cert.PostRefIdeal.S8x256x2048 .bf16)
    (wo : FVec Ideal Cert.PostRefIdeal.S1024x1024 .f32) :
    Cert.PostRefIdeal.Read.val_main_v42 (F := Ideal) x y w g wq kv wo = Cert.PostIdeal.Value.G x y w g wq kv wo := by
  funext i
  idx_vars i
  exact Cert.PostRefIdeal.Read.out_at x y w g wq kv wo _ _ _

/-- The cross-attention call computes its reference, in all three results. -/
theorem value_Post : algebraic_PostIdeal_PostRefIdeal (hPostIdeal := Cert.PostIdeal.Gen.facts) (hPostRefIdeal := Cert.PostRefIdeal.Gen.facts) := by
  pair_intro
  · run_from Cert.PostIdeal.Value.run_blocks m g
  · run_from Cert.PostRefIdeal.Value.run m' g'
    · refine (Cert.PostRefIdeal.Read.val_main_v42_eq m' c).trans ?_
      obtain ⟨a0, a1, a2, a3, a4, a5, a6, -⟩ := hagree c
      rw [a0, a1, a2, a3, a4, a5, a6]
      exact (post_ref _ _ _ _ _ _ _).trans (Cert.PostIdeal.Value.final_9 m c).symm
    · exact (Cert.PostIdeal.Value.final_10 m c).symm
    · exact (Cert.PostIdeal.Value.final_11 m c).symm

/-- The input projection's reference as one array. -/
theorem prep_ref (x : FVec Ideal Cert.PrepRefIdeal.S16384x1024 .f32) (g : FVec Ideal Cert.PrepRefIdeal.S1x1024 .f32)
    (w : FVec Ideal Cert.PrepRefIdeal.S1024x3872 .f32) (mu : FVec Ideal Cert.PrepRefIdeal.S1x1824 .f32)
    (a0 : FVec Ideal Cert.PrepRefIdeal.S1x512 .f32) (aup : FVec Ideal Cert.PrepRefIdeal.S64x512 .f32)
    (gup : FVec Ideal Cert.PrepRefIdeal.S160x512 .f32) (ka rk : FVec Ideal Cert.PrepRefIdeal.S1x512 .f32) :
    Cert.PrepRefIdeal.Read.val_main_v74 (F := Ideal) x g w mu a0 aup gup ka rk
      = Cert.PrepIdeal.Value.allRows x g w mu a0 aup gup ka rk := by
  funext i
  idx_vars i
  exact Cert.PrepRefIdeal.Read.streams_at x g w mu a0 aup gup ka rk _ _

/-- The input projection's call computes its reference. -/
theorem value_Prep : algebraic_PrepIdeal_PrepRefIdeal (hPrepIdeal := Cert.PrepIdeal.Gen.facts) (hPrepRefIdeal := Cert.PrepRefIdeal.Gen.facts) := by
  pair_intro
  · run_from Cert.PrepIdeal.Value.run_blocks m g
  · run_from Cert.PrepRefIdeal.Value.run m' g'
    refine (Cert.PrepRefIdeal.Read.val_main_v74_eq m' c).trans ?_
    obtain ⟨a0, -, a2, a3, -, -, a6, -, -, a9, a10, a11, -, a13, a14, -⟩ := hagree c
    rw [a0, a2, a3, a6, a9, a10, a11, a13, a14]
    exact (prep_ref _ _ _ _ _ _ _ _ _).trans (Cert.PrepIdeal.Value.final_19 m c).symm

/-- The whole certificate. -/
theorem claim : Cert.Claim :=
  ⟨Cert.Post.Gen.facts, Cert.PostIdeal.Gen.facts, Cert.PostRefIdeal.Gen.facts, Cert.Mlp.Gen.facts, Cert.MlpIdeal.Gen.facts, Cert.MlpRefIdeal.Gen.facts, Cert.Kv.Gen.facts, Cert.KvIdeal.Gen.facts, Cert.KvRefIdeal.Gen.facts,
    Cert.Prep.Gen.facts, Cert.PrepIdeal.Gen.facts, Cert.PrepRefIdeal.Gen.facts,
    frame_Post, frame_PostIdeal, frame_PostRefIdeal, frame_Mlp, frame_MlpIdeal, frame_MlpRefIdeal, frame_Kv, frame_KvIdeal, frame_KvRefIdeal,
    frame_Prep, frame_PrepIdeal, frame_PrepRefIdeal,
    trivial, value_Post, trivial, value_Mlp, trivial, value_Kv, trivial, value_Prep⟩

end Cert.Proof

end
